-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x512x512 : Shape := ⟨4, ![4, 3, 512, 512]⟩
abbrev S12x512x512 : Shape := ⟨3, ![12, 512, 512]⟩
abbrev S12x1024x512 : Shape := ⟨3, ![12, 1024, 512]⟩
abbrev S4x3x1024x512 : Shape := ⟨4, ![4, 3, 1024, 512]⟩
abbrev S1x512x512 : Shape := ⟨3, ![1, 512, 512]⟩
abbrev S1x1024x512 : Shape := ⟨3, ![1, 1024, 512]⟩
abbrev S512x512 : Shape := ⟨2, ![512, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x3x512x512, .f32⟩
  | .hbm, ⟨1, _⟩ => ⟨S4x3x512x512, .f32⟩
  | .hbm, ⟨2, _⟩ => ⟨S12x512x512, .f32⟩
  | .hbm, ⟨3, _⟩ => ⟨S12x512x512, .f32⟩
  | .hbm, ⟨4, _⟩ => ⟨S12x1024x512, .f32⟩
  | .hbm, ⟨5, _⟩ => ⟨S4x3x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x1024x512, .f32⟩
  | .local _ .vmem, ⟨5, _⟩ => ⟨S1x1024x512, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x3x512x512 : Shape := ⟨4, ![4, 3, 512, 512]⟩
abbrev S4x3x5x512 : Shape := ⟨4, ![4, 3, 5, 512]⟩
abbrev S4x3x6x512 : Shape := ⟨4, ![4, 3, 6, 512]⟩
abbrev S4x3x523x512 : Shape := ⟨4, ![4, 3, 523, 512]⟩
abbrev S4x3x523x5 : Shape := ⟨4, ![4, 3, 523, 5]⟩
abbrev S4x3x523x6 : Shape := ⟨4, ![4, 3, 523, 6]⟩
abbrev S4x3x523x523 : Shape := ⟨4, ![4, 3, 523, 523]⟩
abbrev S4x3x512x523 : Shape := ⟨4, ![4, 3, 512, 523]⟩
abbrev S_ : Shape := ⟨0, ![]⟩
abbrev S4x3x262144 : Shape := ⟨3, ![4, 3, 262144]⟩
abbrev S512x512 : Shape := ⟨2, ![512, 512]⟩
abbrev S262144 : Shape := ⟨1, ![262144]⟩
abbrev S262144x1 : Shape := ⟨2, ![262144, 1]⟩
abbrev S4x3x512x1 : Shape := ⟨4, ![4, 3, 512, 1]⟩
abbrev S4x3x512x511 : Shape := ⟨4, ![4, 3, 512, 511]⟩
abbrev S4x3x1024x512 : Shape := ⟨4, ![4, 3, 1024, 512]⟩
abbrev S1024 : Shape := ⟨1, ![1024]⟩
abbrev S1024x1 : Shape := ⟨2, ![1024, 1]⟩
abbrev S4x3x524288 : Shape := ⟨3, ![4, 3, 524288]⟩
abbrev S1024x512 : Shape := ⟨2, ![1024, 512]⟩
abbrev S524288 : Shape := ⟨1, ![524288]⟩
abbrev S524288x1 : Shape := ⟨2, ![524288, 1]⟩

abbrev nBuf : Space → Nat
  | .hbm => 330
  | .vmem => 0
  | .smem => 0
  | _ => 0

abbrev hbmTy0_0 (i : Nat) : BufTy := match i % 128 with
  | 0 => ⟨S4x3x512x512, .f32⟩
  | 1 => ⟨S4x3x512x512, .f32⟩
  | 2 => ⟨S4x3x5x512, .f32⟩
  | 3 => ⟨S4x3x6x512, .f32⟩
  | 4 => ⟨S4x3x523x512, .f32⟩
  | 5 => ⟨S4x3x523x5, .f32⟩
  | 6 => ⟨S4x3x523x6, .f32⟩
  | 7 => ⟨S4x3x523x523, .f32⟩
  | 8 => ⟨S4x3x512x523, .f32⟩
  | 9 => ⟨S_, .f32⟩
  | 10 => ⟨S4x3x512x523, .f32⟩
  | 11 => ⟨S4x3x512x523, .f32⟩
  | 12 => ⟨S4x3x512x523, .f32⟩
  | 13 => ⟨S_, .f32⟩
  | 14 => ⟨S4x3x512x523, .f32⟩
  | 15 => ⟨S4x3x512x523, .f32⟩
  | 16 => ⟨S4x3x512x523, .f32⟩
  | 17 => ⟨S4x3x512x523, .f32⟩
  | 18 => ⟨S_, .f32⟩
  | 19 => ⟨S4x3x512x523, .f32⟩
  | 20 => ⟨S4x3x512x523, .f32⟩
  | 21 => ⟨S4x3x512x523, .f32⟩
  | 22 => ⟨S4x3x512x523, .f32⟩
  | 23 => ⟨S_, .f32⟩
  | 24 => ⟨S4x3x512x523, .f32⟩
  | 25 => ⟨S4x3x512x523, .f32⟩
  | 26 => ⟨S4x3x512x523, .f32⟩
  | 27 => ⟨S4x3x512x523, .f32⟩
  | 28 => ⟨S_, .f32⟩
  | 29 => ⟨S4x3x512x523, .f32⟩
  | 30 => ⟨S4x3x512x523, .f32⟩
  | 31 => ⟨S4x3x512x523, .f32⟩
  | 32 => ⟨S4x3x512x523, .f32⟩
  | 33 => ⟨S_, .f32⟩
  | 34 => ⟨S4x3x512x523, .f32⟩
  | 35 => ⟨S4x3x512x523, .f32⟩
  | 36 => ⟨S4x3x512x523, .f32⟩
  | 37 => ⟨S4x3x512x523, .f32⟩
  | 38 => ⟨S_, .f32⟩
  | 39 => ⟨S4x3x512x523, .f32⟩
  | 40 => ⟨S4x3x512x523, .f32⟩
  | 41 => ⟨S4x3x512x523, .f32⟩
  | 42 => ⟨S4x3x512x523, .f32⟩
  | 43 => ⟨S_, .f32⟩
  | 44 => ⟨S4x3x512x523, .f32⟩
  | 45 => ⟨S4x3x512x523, .f32⟩
  | 46 => ⟨S4x3x512x523, .f32⟩
  | 47 => ⟨S4x3x512x523, .f32⟩
  | 48 => ⟨S_, .f32⟩
  | 49 => ⟨S4x3x512x523, .f32⟩
  | 50 => ⟨S4x3x512x523, .f32⟩
  | 51 => ⟨S4x3x512x523, .f32⟩
  | 52 => ⟨S4x3x512x523, .f32⟩
  | 53 => ⟨S_, .f32⟩
  | 54 => ⟨S4x3x512x523, .f32⟩
  | 55 => ⟨S4x3x512x523, .f32⟩
  | 56 => ⟨S4x3x512x523, .f32⟩
  | 57 => ⟨S4x3x512x523, .f32⟩
  | 58 => ⟨S_, .f32⟩
  | 59 => ⟨S4x3x512x523, .f32⟩
  | 60 => ⟨S4x3x512x523, .f32⟩
  | 61 => ⟨S4x3x512x523, .f32⟩
  | 62 => ⟨S4x3x512x523, .f32⟩
  | 63 => ⟨S_, .f32⟩
  | 64 => ⟨S4x3x512x523, .f32⟩
  | 65 => ⟨S4x3x512x523, .f32⟩
  | 66 => ⟨S4x3x512x523, .f32⟩
  | 67 => ⟨S4x3x512x512, .f32⟩
  | 68 => ⟨S_, .f32⟩
  | 69 => ⟨S4x3x512x512, .f32⟩
  | 70 => ⟨S4x3x512x512, .f32⟩
  | 71 => ⟨S4x3x512x512, .f32⟩
  | 72 => ⟨S_, .f32⟩
  | 73 => ⟨S4x3x512x512, .f32⟩
  | 74 => ⟨S4x3x512x512, .f32⟩
  | 75 => ⟨S4x3x512x512, .f32⟩
  | 76 => ⟨S4x3x512x512, .f32⟩
  | 77 => ⟨S_, .f32⟩
  | 78 => ⟨S4x3x512x512, .f32⟩
  | 79 => ⟨S4x3x512x512, .f32⟩
  | 80 => ⟨S4x3x512x512, .f32⟩
  | 81 => ⟨S4x3x512x512, .f32⟩
  | 82 => ⟨S_, .f32⟩
  | 83 => ⟨S4x3x512x512, .f32⟩
  | 84 => ⟨S4x3x512x512, .f32⟩
  | 85 => ⟨S4x3x512x512, .f32⟩
  | 86 => ⟨S4x3x512x512, .f32⟩
  | 87 => ⟨S_, .f32⟩
  | 88 => ⟨S4x3x512x512, .f32⟩
  | 89 => ⟨S4x3x512x512, .f32⟩
  | 90 => ⟨S4x3x512x512, .f32⟩
  | 91 => ⟨S4x3x512x512, .f32⟩
  | 92 => ⟨S_, .f32⟩
  | 93 => ⟨S4x3x512x512, .f32⟩
  | 94 => ⟨S4x3x512x512, .f32⟩
  | 95 => ⟨S4x3x512x512, .f32⟩
  | 96 => ⟨S4x3x512x512, .f32⟩
  | 97 => ⟨S_, .f32⟩
  | 98 => ⟨S4x3x512x512, .f32⟩
  | 99 => ⟨S4x3x512x512, .f32⟩
  | 100 => ⟨S4x3x512x512, .f32⟩
  | 101 => ⟨S4x3x512x512, .f32⟩
  | 102 => ⟨S_, .f32⟩
  | 103 => ⟨S4x3x512x512, .f32⟩
  | 104 => ⟨S4x3x512x512, .f32⟩
  | 105 => ⟨S4x3x512x512, .f32⟩
  | 106 => ⟨S4x3x512x512, .f32⟩
  | 107 => ⟨S_, .f32⟩
  | 108 => ⟨S4x3x512x512, .f32⟩
  | 109 => ⟨S4x3x512x512, .f32⟩
  | 110 => ⟨S4x3x512x512, .f32⟩
  | 111 => ⟨S4x3x512x512, .f32⟩
  | 112 => ⟨S_, .f32⟩
  | 113 => ⟨S4x3x512x512, .f32⟩
  | 114 => ⟨S4x3x512x512, .f32⟩
  | 115 => ⟨S4x3x512x512, .f32⟩
  | 116 => ⟨S4x3x512x512, .f32⟩
  | 117 => ⟨S_, .f32⟩
  | 118 => ⟨S4x3x512x512, .f32⟩
  | 119 => ⟨S4x3x512x512, .f32⟩
  | 120 => ⟨S4x3x512x512, .f32⟩
  | 121 => ⟨S4x3x512x512, .f32⟩
  | 122 => ⟨S_, .f32⟩
  | 123 => ⟨S4x3x512x512, .f32⟩
  | 124 => ⟨S4x3x512x512, .f32⟩
  | 125 => ⟨S4x3x512x512, .f32⟩
  | 126 => ⟨S4x3x512x512, .f32⟩
  | 127 => ⟨S_, .f32⟩
  | _ => ⟨S4x3x512x512, .f32⟩

abbrev hbmTy0_1 (i : Nat) : BufTy := match i % 128 with
  | 0 => ⟨S4x3x512x512, .f32⟩
  | 1 => ⟨S4x3x512x512, .f32⟩
  | 2 => ⟨S_, .f32⟩
  | 3 => ⟨S4x3x512x512, .f32⟩
  | 4 => ⟨S4x3x512x512, .f32⟩
  | 5 => ⟨S4x3x6x512, .f32⟩
  | 6 => ⟨S4x3x5x512, .f32⟩
  | 7 => ⟨S4x3x523x512, .f32⟩
  | 8 => ⟨S4x3x523x6, .f32⟩
  | 9 => ⟨S4x3x523x5, .f32⟩
  | 10 => ⟨S4x3x523x523, .f32⟩
  | 11 => ⟨S4x3x512x523, .f32⟩
  | 12 => ⟨S_, .f32⟩
  | 13 => ⟨S4x3x512x523, .f32⟩
  | 14 => ⟨S4x3x512x523, .f32⟩
  | 15 => ⟨S4x3x512x523, .f32⟩
  | 16 => ⟨S_, .f32⟩
  | 17 => ⟨S4x3x512x523, .f32⟩
  | 18 => ⟨S4x3x512x523, .f32⟩
  | 19 => ⟨S4x3x512x523, .f32⟩
  | 20 => ⟨S4x3x512x523, .f32⟩
  | 21 => ⟨S_, .f32⟩
  | 22 => ⟨S4x3x512x523, .f32⟩
  | 23 => ⟨S4x3x512x523, .f32⟩
  | 24 => ⟨S4x3x512x523, .f32⟩
  | 25 => ⟨S4x3x512x523, .f32⟩
  | 26 => ⟨S_, .f32⟩
  | 27 => ⟨S4x3x512x523, .f32⟩
  | 28 => ⟨S4x3x512x523, .f32⟩
  | 29 => ⟨S4x3x512x523, .f32⟩
  | 30 => ⟨S4x3x512x523, .f32⟩
  | 31 => ⟨S_, .f32⟩
  | 32 => ⟨S4x3x512x523, .f32⟩
  | 33 => ⟨S4x3x512x523, .f32⟩
  | 34 => ⟨S4x3x512x523, .f32⟩
  | 35 => ⟨S4x3x512x523, .f32⟩
  | 36 => ⟨S_, .f32⟩
  | 37 => ⟨S4x3x512x523, .f32⟩
  | 38 => ⟨S4x3x512x523, .f32⟩
  | 39 => ⟨S4x3x512x523, .f32⟩
  | 40 => ⟨S4x3x512x523, .f32⟩
  | 41 => ⟨S_, .f32⟩
  | 42 => ⟨S4x3x512x523, .f32⟩
  | 43 => ⟨S4x3x512x523, .f32⟩
  | 44 => ⟨S4x3x512x523, .f32⟩
  | 45 => ⟨S4x3x512x523, .f32⟩
  | 46 => ⟨S_, .f32⟩
  | 47 => ⟨S4x3x512x523, .f32⟩
  | 48 => ⟨S4x3x512x523, .f32⟩
  | 49 => ⟨S4x3x512x523, .f32⟩
  | 50 => ⟨S4x3x512x523, .f32⟩
  | 51 => ⟨S_, .f32⟩
  | 52 => ⟨S4x3x512x523, .f32⟩
  | 53 => ⟨S4x3x512x523, .f32⟩
  | 54 => ⟨S4x3x512x523, .f32⟩
  | 55 => ⟨S4x3x512x523, .f32⟩
  | 56 => ⟨S_, .f32⟩
  | 57 => ⟨S4x3x512x523, .f32⟩
  | 58 => ⟨S4x3x512x523, .f32⟩
  | 59 => ⟨S4x3x512x523, .f32⟩
  | 60 => ⟨S4x3x512x523, .f32⟩
  | 61 => ⟨S_, .f32⟩
  | 62 => ⟨S4x3x512x523, .f32⟩
  | 63 => ⟨S4x3x512x523, .f32⟩
  | 64 => ⟨S4x3x512x523, .f32⟩
  | 65 => ⟨S4x3x512x523, .f32⟩
  | 66 => ⟨S_, .f32⟩
  | 67 => ⟨S4x3x512x523, .f32⟩
  | 68 => ⟨S4x3x512x523, .f32⟩
  | 69 => ⟨S4x3x512x523, .f32⟩
  | 70 => ⟨S4x3x512x512, .f32⟩
  | 71 => ⟨S_, .f32⟩
  | 72 => ⟨S4x3x512x512, .f32⟩
  | 73 => ⟨S4x3x512x512, .f32⟩
  | 74 => ⟨S4x3x512x512, .f32⟩
  | 75 => ⟨S_, .f32⟩
  | 76 => ⟨S4x3x512x512, .f32⟩
  | 77 => ⟨S4x3x512x512, .f32⟩
  | 78 => ⟨S4x3x512x512, .f32⟩
  | 79 => ⟨S4x3x512x512, .f32⟩
  | 80 => ⟨S_, .f32⟩
  | 81 => ⟨S4x3x512x512, .f32⟩
  | 82 => ⟨S4x3x512x512, .f32⟩
  | 83 => ⟨S4x3x512x512, .f32⟩
  | 84 => ⟨S4x3x512x512, .f32⟩
  | 85 => ⟨S_, .f32⟩
  | 86 => ⟨S4x3x512x512, .f32⟩
  | 87 => ⟨S4x3x512x512, .f32⟩
  | 88 => ⟨S4x3x512x512, .f32⟩
  | 89 => ⟨S4x3x512x512, .f32⟩
  | 90 => ⟨S_, .f32⟩
  | 91 => ⟨S4x3x512x512, .f32⟩
  | 92 => ⟨S4x3x512x512, .f32⟩
  | 93 => ⟨S4x3x512x512, .f32⟩
  | 94 => ⟨S4x3x512x512, .f32⟩
  | 95 => ⟨S_, .f32⟩
  | 96 => ⟨S4x3x512x512, .f32⟩
  | 97 => ⟨S4x3x512x512, .f32⟩
  | 98 => ⟨S4x3x512x512, .f32⟩
  | 99 => ⟨S4x3x512x512, .f32⟩
  | 100 => ⟨S_, .f32⟩
  | 101 => ⟨S4x3x512x512, .f32⟩
  | 102 => ⟨S4x3x512x512, .f32⟩
  | 103 => ⟨S4x3x512x512, .f32⟩
  | 104 => ⟨S4x3x512x512, .f32⟩
  | 105 => ⟨S_, .f32⟩
  | 106 => ⟨S4x3x512x512, .f32⟩
  | 107 => ⟨S4x3x512x512, .f32⟩
  | 108 => ⟨S4x3x512x512, .f32⟩
  | 109 => ⟨S4x3x512x512, .f32⟩
  | 110 => ⟨S_, .f32⟩
  | 111 => ⟨S4x3x512x512, .f32⟩
  | 112 => ⟨S4x3x512x512, .f32⟩
  | 113 => ⟨S4x3x512x512, .f32⟩
  | 114 => ⟨S4x3x512x512, .f32⟩
  | 115 => ⟨S_, .f32⟩
  | 116 => ⟨S4x3x512x512, .f32⟩
  | 117 => ⟨S4x3x512x512, .f32⟩
  | 118 => ⟨S4x3x512x512, .f32⟩
  | 119 => ⟨S4x3x512x512, .f32⟩
  | 120 => ⟨S_, .f32⟩
  | 121 => ⟨S4x3x512x512, .f32⟩
  | 122 => ⟨S4x3x512x512, .f32⟩
  | 123 => ⟨S4x3x512x512, .f32⟩
  | 124 => ⟨S4x3x512x512, .f32⟩
  | 125 => ⟨S_, .f32⟩
  | 126 => ⟨S4x3x512x512, .f32⟩
  | 127 => ⟨S4x3x512x512, .f32⟩
  | _ => ⟨S4x3x512x512, .f32⟩

abbrev hbmTy0_2 (i : Nat) : BufTy := match i % 128 with
  | 0 => ⟨S4x3x512x512, .f32⟩
  | 1 => ⟨S4x3x512x512, .f32⟩
  | 2 => ⟨S4x3x512x512, .f32⟩
  | 3 => ⟨S4x3x262144, .f32⟩
  | 4 => ⟨S512x512, .i32⟩
  | 5 => ⟨S512x512, .i32⟩
  | 6 => ⟨S_, .i32⟩
  | 7 => ⟨S512x512, .i32⟩
  | 8 => ⟨S512x512, .i32⟩
  | 9 => ⟨S512x512, .i32⟩
  | 10 => ⟨S_, .i32⟩
  | 11 => ⟨S512x512, .i32⟩
  | 12 => ⟨S512x512, .i32⟩
  | 13 => ⟨S_, .i32⟩
  | 14 => ⟨S512x512, .i32⟩
  | 15 => ⟨S512x512, .i32⟩
  | 16 => ⟨S512x512, .i32⟩
  | 17 => ⟨S262144, .i32⟩
  | 18 => ⟨S262144x1, .i32⟩
  | 19 => ⟨S4x3x262144, .f32⟩
  | 20 => ⟨S4x3x512x512, .f32⟩
  | 21 => ⟨S4x3x512x512, .f32⟩
  | 22 => ⟨S4x3x512x512, .f32⟩
  | 23 => ⟨S4x3x262144, .f32⟩
  | 24 => ⟨S512x512, .i32⟩
  | 25 => ⟨S512x512, .i32⟩
  | 26 => ⟨S_, .i32⟩
  | 27 => ⟨S512x512, .i32⟩
  | 28 => ⟨S512x512, .i32⟩
  | 29 => ⟨S512x512, .i32⟩
  | 30 => ⟨S_, .i32⟩
  | 31 => ⟨S512x512, .i32⟩
  | 32 => ⟨S512x512, .i32⟩
  | 33 => ⟨S_, .i32⟩
  | 34 => ⟨S512x512, .i32⟩
  | 35 => ⟨S512x512, .i32⟩
  | 36 => ⟨S512x512, .i32⟩
  | 37 => ⟨S262144, .i32⟩
  | 38 => ⟨S262144x1, .i32⟩
  | 39 => ⟨S4x3x262144, .f32⟩
  | 40 => ⟨S4x3x512x512, .f32⟩
  | 41 => ⟨S4x3x512x512, .f32⟩
  | 42 => ⟨S4x3x512x1, .f32⟩
  | 43 => ⟨S4x3x512x511, .f32⟩
  | 44 => ⟨S4x3x512x512, .f32⟩
  | 45 => ⟨S4x3x1024x512, .f32⟩
  | 46 => ⟨S1024, .i32⟩
  | 47 => ⟨S_, .i32⟩
  | 48 => ⟨S1024, .i32⟩
  | 49 => ⟨S1024, .i32⟩
  | 50 => ⟨S_, .i32⟩
  | 51 => ⟨S1024, .i32⟩
  | 52 => ⟨S1024, .i32⟩
  | 53 => ⟨S_, .i32⟩
  | 54 => ⟨S1024, .i32⟩
  | 55 => ⟨S1024, .i32⟩
  | 56 => ⟨S1024, .i32⟩
  | 57 => ⟨S1024x1, .i32⟩
  | 58 => ⟨S4x3x1024x512, .f32⟩
  | 59 => ⟨S4x3x524288, .f32⟩
  | 60 => ⟨S1024x512, .i32⟩
  | 61 => ⟨S1024x512, .i32⟩
  | 62 => ⟨S1024x512, .i32⟩
  | 63 => ⟨S_, .i32⟩
  | 64 => ⟨S1024x512, .i32⟩
  | 65 => ⟨S1024x512, .i32⟩
  | 66 => ⟨S_, .i32⟩
  | 67 => ⟨S1024x512, .i32⟩
  | 68 => ⟨S1024x512, .i32⟩
  | 69 => ⟨S1024x512, .i32⟩
  | 70 => ⟨S524288, .i32⟩
  | 71 => ⟨S524288x1, .i32⟩
  | 72 => ⟨S4x3x524288, .f32⟩
  | 73 => ⟨S4x3x1024x512, .f32⟩
  | _ => ⟨S4x3x512x512, .f32⟩

abbrev hbmTy (i : Nat) : BufTy := match i / 128 with
  | 0 => hbmTy0_0 i
  | 1 => hbmTy0_1 i
  | 2 => hbmTy0_2 i
  | _ => ⟨S4x3x512x512, .f32⟩

abbrev bufTy : (tb : Table) → Fin (tcTables nBuf tb) → BufTy
  | .hbm, ⟨i, _⟩ => hbmTy i
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_8 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_9 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_10 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_13 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_14 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_15 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_16 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_17 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_18 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_19 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_20 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_21 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_22 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_23 : Ref sig .tc := ⟨.hbm, 127, rfl⟩
abbrev main_v101 : Ref sig .tc := ⟨.hbm, 128, rfl⟩
abbrev main_v102 : Ref sig .tc := ⟨.hbm, 129, rfl⟩
abbrev main_cst_24 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_25 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_26 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_27 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_28 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_29 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_30 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_31 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_32 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_33 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_34 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_35 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_36 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_37 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_cst_38 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_39 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_cst_40 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_41 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_cst_42 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_43 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_cst_44 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_cst_45 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_cst_46 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_cst_47 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_cst_48 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_c : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_c_49 : Ref sig .tc := ⟨.hbm, 266, rfl⟩
abbrev main_v213 : Ref sig .tc := ⟨.hbm, 267, rfl⟩
abbrev main_v214 : Ref sig .tc := ⟨.hbm, 268, rfl⟩
abbrev main_c_50 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_call0_v0 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_c_51 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_c_52 : Ref sig .tc := ⟨.hbm, 286, rfl⟩
abbrev main_v229 : Ref sig .tc := ⟨.hbm, 287, rfl⟩
abbrev main_v230 : Ref sig .tc := ⟨.hbm, 288, rfl⟩
abbrev main_c_53 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_call1_v0 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_c_54 : Ref sig .tc := ⟨.hbm, 303, rfl⟩
abbrev main_v243 : Ref sig .tc := ⟨.hbm, 304, rfl⟩
abbrev main_v244 : Ref sig .tc := ⟨.hbm, 305, rfl⟩
abbrev main_c_55 : Ref sig .tc := ⟨.hbm, 306, rfl⟩
abbrev main_v245 : Ref sig .tc := ⟨.hbm, 307, rfl⟩
abbrev main_v246 : Ref sig .tc := ⟨.hbm, 308, rfl⟩
abbrev main_c_56 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_call2_v0 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_c_57 : Ref sig .tc := ⟨.hbm, 319, rfl⟩
abbrev main_v255 : Ref sig .tc := ⟨.hbm, 320, rfl⟩
abbrev main_v256 : Ref sig .tc := ⟨.hbm, 321, rfl⟩
abbrev main_c_58 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_call3_v0 : Ref sig .tc := ⟨.hbm, 327, rfl⟩
abbrev main_v261 : Ref sig .tc := ⟨.hbm, 328, rfl⟩
abbrev main_v262 : Ref sig .tc := ⟨.hbm, 329, rfl⟩

abbrev nD : Nat := 1
abbrev τ : Topo := Topo.v7x

variable {F : FTy → Type} [FloatOps F]
-- ==== Proof.Image.lean ====
/- One step of the synthesis of a directional filter bank, said on a single pair of 512×512 images by plain
   indices: the ladder's two separable circular filterings, the two skewed subbands, and the interleaved, sheared
   image of 1024×512. Both programs are compared with `synth`. -/
module

public import Idealize.ShloMosaic.Lib.ValueIdxCore

@[expose] public section

noncomputable section

namespace Cert.Image

open Idealize.ShloMosaic

variable {F : FTy → Type} [FloatOps F]

/-- A sample scaled by the number whose single-precision word is `w`. -/
def tap (w : BitVec 32) (x : F .f32) : F .f32 := FloatOps.mulf (FloatOps.ofBits .f32 w) x

/-- The twelve-tap filter of a sequence of samples, its products summed from the first to the last. -/
def fir (x : Nat → F .f32) : F .f32 :=
  FloatOps.addf (FloatOps.addf (FloatOps.addf (FloatOps.addf (FloatOps.addf (FloatOps.addf (FloatOps.addf (FloatOps.addf
    (FloatOps.addf (FloatOps.addf (FloatOps.addf
      (tap 0x3C6BEDFA#32 (x 0)) (tap 0x3CDED289#32 (x 1))) (tap 0x3D577319#32 (x 2))) (tap 0x3DC710CB#32 (x 3)))
      (tap 0x3E45A1CB#32 (x 4))) (tap 0x3F2147AE#32 (x 5))) (tap 0xBF2147AE#32 (x 6))) (tap 0xBE45A1CB#32 (x 7)))
      (tap 0xBDC710CB#32 (x 8))) (tap 0xBD577319#32 (x 9))) (tap 0xBCDED289#32 (x 10))) (tap 0xBC6BEDFA#32 (x 11))

/-- The filter depends on its first twelve samples only. -/
theorem fir_congr {x y : Nat → F .f32} (h : ∀ t, t < 12 → x t = y t) : fir x = fir y := by
  unfold fir
  rw [h 0 (by decide), h 1 (by decide), h 2 (by decide), h 3 (by decide), h 4 (by decide), h 5 (by decide),
    h 6 (by decide), h 7 (by decide), h 8 (by decide), h 9 (by decide), h 10 (by decide), h 11 (by decide)]

/-- A position on a circle of 512. -/
def wrap (n : Nat) : Fin 512 := ⟨n % 512, Nat.mod_lt _ (by decide)⟩

/-- The position as a number. -/
@[simp] theorem wrap_val (n : Nat) : (wrap n).val = n % 512 := rfl

/-- Positions that differ by whole turns are the same. -/
theorem wrap_congr {a b : Nat} (h : a % 512 = b % 512) : wrap a = wrap b := Fin.ext h

/-- A square image. -/
abbrev Sq (F : FTy → Type) := Fin 512 → Fin 512 → F .f32

/-- The separable circular filtering: down the columns first, then along the rows; the first tap of either reads
    `off` positions on. -/
def conv (off : Nat) (x : Sq F) : Sq F := fun r c =>
  fir fun s => fir fun t => x (wrap (r.val + off + t)) (wrap (c.val + off + s))

/-- The second subband after the ladder: the scaled sum of `y1` and `y0` filtered. -/
def sub1 (y0 y1 : Sq F) : Sq F := fun r c => tap 0xBF3504F3#32 (FloatOps.addf (y1 r c) (conv 507 y0 r c))

/-- The first subband after the ladder: `y0` scaled, plus the second subband filtered. -/
def sub0 (y0 y1 : Sq F) : Sq F := fun r c =>
  FloatOps.addf (tap 0x3FB504F3#32 (y0 r c)) (conv 506 (sub1 y0 y1) r c)

/-- The two subbands put together: at row `r` and column `c` it is row `⌊u/2⌋` of a subband with `u = (r + c) mod 1024`,
    of the first for an even `u`, of the second for an odd one, each row turned by its own number (the second's by
    one more). -/
def synth (y0 y1 : Sq F) (r : Fin 1024) (c : Fin 512) : F .f32 :=
  let u := (r.val + c.val) % 1024
  if u % 2 = 0 then sub0 y0 y1 (wrap (u / 2)) (wrap (c.val + 512 - u / 2))
  else sub1 y0 y1 (wrap (u / 2)) (wrap (c.val + 511 - u / 2))

end Cert.Image

end
-- ==== Proof.KernelBlock.lean ====
/- What one block of the kernel computes, operation by operation on whole arrays and then at an index. -/
module

public import proofs.«01_k».proof.Proof.Gen.KernelIdeal.Frame
public import proofs.«01_k».proof.Proof.Image
public import Idealize.ShloMosaic.Lib.Pipeline.Value
public import Idealize.ShloMosaic.Lib.KernelVsHost
public import Idealize.ShloMosaic.Lib.Pointwise.ShapeOpsCore
public import Idealize.ShloMosaic.Lib.Pointwise.SelectCore

@[expose] public section

noncomputable section

namespace Cert.KernelIdeal.Block

open Cert.KernelIdeal Cert.KernelIdeal.Gen Cert.Image
open Idealize.ShloMosaic hiding ix2 ix3
open Idealize.ShloMosaic.ValueIdx

variable {F : FTy → Type} [FloatOps F]

/-! ## The kernel's stages on arrays -/

/-- One product of the filter: an array times a number given by its word. -/
def scaled (w : BitVec 32) (x : FVec F S512x512 .f32) : FVec F S512x512 .f32 :=
  mulf (broadcast S512x512 (Scalar.ofBits .f32 w)) x

/-- The twelve scaled arrays summed in order. -/
def firV (x : Nat → FVec F S512x512 .f32) : FVec F S512x512 .f32 :=
  addf (addf (addf (addf (addf (addf (addf (addf (addf (addf (addf
      (scaled 0x3C6BEDFA#32 (x 0)) (scaled 0x3CDED289#32 (x 1))) (scaled 0x3D577319#32 (x 2))) (scaled 0x3DC710CB#32 (x 3)))
      (scaled 0x3E45A1CB#32 (x 4))) (scaled 0x3F2147AE#32 (x 5))) (scaled 0xBF2147AE#32 (x 6))) (scaled 0xBE45A1CB#32 (x 7)))
      (scaled 0xBDC710CB#32 (x 8))) (scaled 0xBD577319#32 (x 9))) (scaled 0xBCDED289#32 (x 10))) (scaled 0xBC6BEDFA#32 (x 11))

/-- The amount that tap `t` turns the image by when tap 0 turns it by `k`. -/
def turn (k t : Nat) : BitVec 32 := BitVec.ofNat 32 ((512 + k - t) % 512)

/-- The filter down the columns. -/
def firRows (k : Nat) (x : FVec F S512x512 .f32) : FVec F S512x512 .f32 :=
  firV fun t => dynamicRotate 0 (turn k t) none x rotates_S512x512_d0

/-- The filter along the rows. -/
def firCols (k : Nat) (x : FVec F S512x512 .f32) : FVec F S512x512 .f32 :=
  firV fun t => dynamicRotate 1 (turn k t) none x rotates_S512x512_d1

/-- Each row turned by its own number and `k` more. -/
def skew (k : BitVec 32) (x : FVec F S512x512 .f32) : FVec F S512x512 .f32 :=
  dynamicRotate 1 k (some (1, 0)) x rotates_S512x512_d1s1a0

/-- The first array on top of the second. -/
def stack (x y : FVec F S512x512 .f32) : FVec F S1024x512 .f32 :=
  concatenate S1024x512 0 [⟨S512x512, x⟩, ⟨S512x512, y⟩] concatenates_S512x512_S512x512_S1024x512_d0

/-- Each element's row. -/
def rowNo : IVec S1024x512 32 := iota .tc S1024x512 32 [0] iota_S1024x512_d0_w32
/-- Each element's column. -/
def colNo : IVec S1024x512 32 := iota .tc S1024x512 32 [1] iota_S1024x512_d1_w32

/-- Whether the row modulo `4 q` lies in `[a, b)`. -/
def within (q a b : Nat) : IVec S1024x512 1 :=
  andi (cmpi .sge (andi rowNo (broadcast S1024x512 (BitVec.ofNat 32 (4 * q - 1)))) (broadcast S1024x512 (BitVec.ofNat 32 a)))
    (cmpi .slt (andi rowNo (broadcast S1024x512 (BitVec.ofNat 32 (4 * q - 1)))) (broadcast S1024x512 (BitVec.ofNat 32 b)))

/-- In every stretch of `4 q` rows, the second and third quarter exchanged. -/
def exchange (q : Nat) (y : FVec F S1024x512 .f32) : FVec F S1024x512 .f32 :=
  select (within q q (2 * q)) (dynamicRotate 0 (BitVec.ofNat 32 (1024 - q)) none y rotates_S1024x512_d0)
    (select (within q (2 * q) (3 * q)) (dynamicRotate 0 (BitVec.ofNat 32 q) none y rotates_S1024x512_d0) y)

/-- The columns whose number has bit `q` moved up by `q` rows, around the end. -/
def lift (q : Nat) (y : FVec F S1024x512 .f32) : FVec F S1024x512 .f32 :=
  select (cmpi .ne (andi colNo (broadcast S1024x512 (BitVec.ofNat 32 q))) (broadcast S1024x512 0#32))
    (dynamicRotate 0 (BitVec.ofNat 32 (1024 - q)) none y rotates_S1024x512_d0) y

/-! ## The kernel's values are those stages -/

variable (x0 x1 : Vec F S1x512x512 .f32)

/-- The first image, filtered down the columns. -/
theorem pay34_eq : k0_pay34 x0 x1 = firRows 5 (k0_pay32 x0 x1) := rfl

/-- The second subband: the second image and the first one filtered, summed and scaled. -/
theorem pay37_eq : k0_pay37 x0 x1
    = scaled 0xBF3504F3#32 (addf (shapeCast S512x512 (View.ld x1 r0_0) shapeCasts_S1x512x512_S512x512)
        (firCols 5 (k0_pay34 x0 x1))) := rfl

/-- The second subband, filtered both ways. -/
theorem pay39_eq : k0_pay39 x0 x1 = firCols 6 (firRows 6 (k0_pay37 x0 x1)) := rfl

/-- The skewed subbands one above the other, after the two largest exchanges of rows. -/
theorem pay41_eq : k0_pay41 x0 x1
    = exchange 128 (exchange 256 (stack (skew 0#32 (addf (scaled 0x3FB504F3#32 (k0_pay32 x0 x1)) (k0_pay39 x0 x1)))
        (skew 1#32 (k0_pay37 x0 x1)))) := rfl

/-- The next two exchanges. -/
theorem pay44_eq : k0_pay44 x0 x1 = exchange 32 (exchange 64 (k0_pay41 x0 x1)) := rfl

/-- The three exchanges after those. -/
theorem pay51_eq : k0_pay51 x0 x1 = exchange 4 (exchange 8 (exchange 16 (k0_pay44 x0 x1))) := rfl

/-- The last two exchanges, and the columns' first two moves. -/
theorem pay57_eq : k0_pay57 x0 x1 = lift 2 (lift 1 (exchange 1 (exchange 2 (k0_pay51 x0 x1)))) := rfl

/-- The block that is stored: the columns' other eight moves done. -/
theorem last_eq : k0_pay1 (k0_pay56 x0 x1) (k0_pay30 (k0_pay56 x0 x1) (k0_pay57 x0 x1) (k0_pay58 x0 x1) (k0_pay59 x0 x1))
      (k0_pay31 (k0_pay56 x0 x1) (k0_pay57 x0 x1) (k0_pay58 x0 x1) (k0_pay59 x0 x1))
    = shapeCast S1x1024x512 (lift 512 (lift 256 (lift 128 (lift 64 (lift 32 (lift 16 (lift 8 (lift 4 (k0_pay57 x0 x1)))))))))
        shapeCasts_S1024x512_S1x1024x512 := rfl

/-! ## The stages at an index -/

/-- A scaled array at an index. -/
theorem scaled_apply (w : BitVec 32) (x : FVec F S512x512 .f32) (i : S512x512.Idx) : scaled w x i = tap w (x i) := rfl

/-- The sum of twelve scaled arrays at an index is the filter of their elements there. -/
theorem firV_apply (x : Nat → FVec F S512x512 .f32) (i : S512x512.Idx) : firV x i = fir fun t => x t i := rfl

/-- The amounts of the turns, as numbers. -/
theorem turn_toNat (k t : Nat) : (turn k t).toNat = (512 + k - t) % 512 := by
  unfold turn
  rw [BitVec.toNat_ofNat]
  exact Nat.mod_eq_of_lt (by have := Nat.mod_lt (512 + k - t) (show 0 < 512 by decide); omega)

/-- The filter down the columns at an index. -/
theorem firRows_apply (k : Nat) (hk : k ≤ 511) (x : FVec F S512x512 .f32) (r c : Fin 512) :
    firRows k x (ix2 r c) = fir fun t => x (ix2 (wrap (r.val + (512 - k) + t)) c) := by
  unfold firRows
  rw [firV_apply]
  refine fir_congr fun t ht => ?_
  refine dynamicRotate_apply 0 (turn k t) x rotates_S512x512_d0 _ _ fun b => ?_
  rw [turn_toNat]
  match b with
  | ⟨0, _⟩ =>
    refine Eq.trans ?_ (if_pos rfl).symm
    show (r.val + (512 - k) + t) % 512 = (r.val + 512 - (512 + k - t) % 512 % 512) % 512
    omega
  | ⟨1, _⟩ => exact (if_neg fun h => Nat.one_ne_zero (congrArg Fin.val h)).symm

/-- The filter along the rows at an index. -/
theorem firCols_apply (k : Nat) (hk : k ≤ 511) (x : FVec F S512x512 .f32) (r c : Fin 512) :
    firCols k x (ix2 r c) = fir fun t => x (ix2 r (wrap (c.val + (512 - k) + t))) := by
  unfold firCols
  rw [firV_apply]
  refine fir_congr fun t ht => ?_
  refine dynamicRotate_apply 1 (turn k t) x rotates_S512x512_d1 _ _ fun b => ?_
  rw [turn_toNat]
  match b with
  | ⟨0, _⟩ => exact (if_neg fun h => Nat.zero_ne_one (congrArg Fin.val h)).symm
  | ⟨1, _⟩ =>
    refine Eq.trans ?_ (if_pos rfl).symm
    show (c.val + (512 - k) + t) % 512 = (c.val + 512 - (512 + k - t) % 512 % 512) % 512
    omega

/-- An array of 512×512 read as an image. -/
def sq (x : FVec F S512x512 .f32) : Sq F := fun r c => x (ix2 r c)

/-- Both filters of the kernel are the separable circular filtering. -/
theorem firCols_firRows (k : Nat) (hk : k ≤ 511) (x : FVec F S512x512 .f32) (r c : Fin 512) :
    firCols k (firRows k x) (ix2 r c) = conv (512 - k) (sq x) r c := by
  rw [firCols_apply k hk]
  unfold conv
  refine fir_congr fun s _ => ?_
  rw [firRows_apply k hk]
  rfl

/-- The skew at an index. -/
theorem skew_apply (k : Nat) (hk : k ≤ 1) (x : FVec F S512x512 .f32) (r c : Fin 512) :
    skew (BitVec.ofNat 32 k) x (ix2 r c) = x (ix2 r (wrap (c.val + 512 - (k + r.val) % 512))) := by
  unfold skew
  rw [Pointwise.dynamicRotate_apply]
  refine congrArg x ?_
  have hn : (BitVec.ofNat 32 k).toNat = k := by rw [BitVec.toNat_ofNat]; exact Nat.mod_eq_of_lt (by omega)
  funext b
  match b with
  | ⟨0, _⟩ => rfl
  | ⟨1, _⟩ =>
    refine Fin.ext ?_
    show (c.val + 512 - ((BitVec.ofNat 32 k).toNat + 1 * r.val) % 512) % 512 = (c.val + 512 - (k + r.val) % 512) % 512
    rw [hn, Nat.one_mul]

/-- The stack at an index: rows from 512 on are the second array's. -/
theorem stack_apply (x y : FVec F S512x512 .f32) (r : Fin 1024) (c : Fin 512) :
    stack x y (ix2 r c) = if r.val < 512 then x (ix2 (wrap r.val) c) else y (ix2 (wrap r.val) c) := by
  unfold stack
  rw [concatenate_pair_apply]
  have hr := r.isLt
  split
  · rename_i h
    have h' : r.val < 512 := h
    rw [if_pos h']
    refine congrArg x ?_
    funext b
    match b with
    | ⟨0, _⟩ => exact Fin.ext (Nat.mod_eq_of_lt h').symm
    | ⟨1, _⟩ => rfl
  · rename_i h
    have h' : ¬ r.val < 512 := h
    rw [if_neg h']
    refine congrArg y ?_
    funext b
    match b with
    | ⟨0, _⟩ =>
      refine Fin.ext ?_
      show r.val - 512 = r.val % 512
      omega
    | ⟨1, _⟩ => rfl

/-! ### The rows' moves -/

/-- The row `d` further on, around the end. -/
def fwd (r : Fin 1024) (d : Nat) : Fin 1024 := ⟨(r.val + d) % 1024, Nat.mod_lt _ (by decide)⟩

/-- Going on twice is going on by the sum. -/
theorem fwd_fwd (r : Fin 1024) (a b : Nat) : fwd (fwd r a) b = fwd r (a + b) :=
  Fin.ext (by show ((r.val + a) % 1024 + b) % 1024 = (r.val + (a + b)) % 1024; omega)

/-- A rotation of the 1024 rows at an index. -/
theorem rot_apply (n : Nat) (hn : n ≤ 1024) (y : FVec F S1024x512 .f32) (r : Fin 1024) (c : Fin 512) :
    dynamicRotate 0 (BitVec.ofNat 32 n) none y rotates_S1024x512_d0 (ix2 r c) = y (ix2 (fwd r (1024 - n)) c) := by
  have hb : (BitVec.ofNat 32 n).toNat = n := by rw [BitVec.toNat_ofNat]; exact Nat.mod_eq_of_lt (by omega)
  refine dynamicRotate_apply 0 _ y rotates_S1024x512_d0 _ _ fun b => ?_
  rw [hb]
  match b with
  | ⟨0, _⟩ =>
    refine Eq.trans ?_ (if_pos rfl).symm
    show (r.val + (1024 - n)) % 1024 = (r.val + 1024 - n % 1024) % 1024
    have := r.isLt
    by_cases h : n = 1024
    · subst h; omega
    · rw [Nat.mod_eq_of_lt (show n < 1024 by omega)]; congr 1; omega
  | ⟨1, _⟩ => exact (if_neg fun h => Nat.one_ne_zero (congrArg Fin.val h)).symm

/-- The word of `within` at row `r`. -/
def inside (q a b : Nat) (r : Nat) : BitVec 1 :=
  IntOp.andi (IntOp.cmpi .sge (IntOp.andi (BitVec.ofNat 32 r) (BitVec.ofNat 32 (4 * q - 1))) (BitVec.ofNat 32 a))
    (IntOp.cmpi .slt (IntOp.andi (BitVec.ofNat 32 r) (BitVec.ofNat 32 (4 * q - 1))) (BitVec.ofNat 32 b))

/-- The array of row numbers at an index. -/
theorem rowNo_apply (r : Fin 1024) (c : Fin 512) : rowNo (ix2 r c) = BitVec.ofNat 32 r.val := by
  show BitVec.ofNat 32 (0 * 1024 + r.val) = _
  rw [Nat.zero_mul, Nat.zero_add]

/-- The array of column numbers at an index. -/
theorem colNo_apply (r : Fin 1024) (c : Fin 512) : colNo (ix2 r c) = BitVec.ofNat 32 c.val := by
  show BitVec.ofNat 32 (0 * 512 + c.val) = _
  rw [Nat.zero_mul, Nat.zero_add]

/-- `within` at an index depends on the row alone. -/
theorem within_apply (q a b : Nat) (r : Fin 1024) (c : Fin 512) : within q a b (ix2 r c) = inside q a b r.val := by
  unfold inside
  rw [← rowNo_apply r c]
  rfl

/-- The row that `exchange q` reads for row `r`. -/
def exRow (q : Nat) (r : Fin 1024) : Fin 1024 :=
  if inside q q (2 * q) r.val = 1 then fwd r q else if inside q (2 * q) (3 * q) r.val = 1 then fwd r (1024 - q) else r

/-- An exchange at an index reads the same column, another row. -/
theorem exchange_apply (q : Nat) (hq : q ≤ 1024) (y : FVec F S1024x512 .f32) (r : Fin 1024) (c : Fin 512) :
    exchange q y (ix2 r c) = y (ix2 (exRow q r) c) := by
  unfold exchange exRow
  rw [select_apply, select_apply, within_apply, within_apply, rot_apply _ (by omega), rot_apply _ hq]
  unfold Scalar.select
  rw [show 1024 - (1024 - q) = q by omega]
  split
  · rfl
  · split <;> rfl

/-- The nine exchanges in turn. -/
def shuffle (y : FVec F S1024x512 .f32) : FVec F S1024x512 .f32 :=
  exchange 1 (exchange 2 (exchange 4 (exchange 8 (exchange 16 (exchange 32 (exchange 64 (exchange 128 (exchange 256 y))))))))

/-- Together the nine exchanges send even rows to the upper half and odd rows to the lower. -/
theorem exRow_all : ∀ r : Fin 1024,
    (exRow 256 (exRow 128 (exRow 64 (exRow 32 (exRow 16 (exRow 8 (exRow 4 (exRow 2 (exRow 1 r))))))))).val
      = r.val / 2 + 512 * (r.val % 2) := by
  decide +kernel

/-- The shuffle at an index. -/
theorem shuffle_apply (y : FVec F S1024x512 .f32) (r : Fin 1024) (c : Fin 512) :
    shuffle y (ix2 r c) = y (ix2 ⟨r.val / 2 + 512 * (r.val % 2), by have := r.isLt; omega⟩ c) := by
  unfold shuffle
  rw [exchange_apply 1 (by decide), exchange_apply 2 (by decide), exchange_apply 4 (by decide), exchange_apply 8 (by decide),
    exchange_apply 16 (by decide), exchange_apply 32 (by decide), exchange_apply 64 (by decide),
    exchange_apply 128 (by decide), exchange_apply 256 (by decide)]
  exact congrArg (fun a => y (ix2 a c)) (Fin.ext (exRow_all r))

/-! ### The columns' moves -/

/-- How far `lift q` moves column `c`. -/
def climb (q : Nat) (c : Nat) : Nat :=
  if IntOp.cmpi .ne (IntOp.andi (BitVec.ofNat 32 c) (BitVec.ofNat 32 q)) 0#32 = 1 then q else 0

/-- A lift at an index reads the same column, a row further on. -/
theorem lift_apply (q : Nat) (hq : q ≤ 1024) (y : FVec F S1024x512 .f32) (r : Fin 1024) (c : Fin 512) :
    lift q y (ix2 r c) = y (ix2 (fwd r (climb q c.val)) c) := by
  unfold lift climb
  rw [select_apply, rot_apply _ (by omega), show 1024 - (1024 - q) = q by omega, ← colNo_apply r c]
  unfold Scalar.select
  show (if IntOp.cmpi .ne (IntOp.andi (colNo (ix2 r c)) (BitVec.ofNat 32 q)) 0#32 = 1 then _ else _) = _
  split
  · rfl
  · refine congrArg (fun a => y (ix2 a c)) (Fin.ext ?_)
    show r.val = (r.val + 0) % 1024
    have := r.isLt
    omega

/-- The ten lifts in turn. -/
def shear (y : FVec F S1024x512 .f32) : FVec F S1024x512 .f32 :=
  lift 512 (lift 256 (lift 128 (lift 64 (lift 32 (lift 16 (lift 8 (lift 4 (lift 2 (lift 1 y)))))))))

/-- The bits of a column's number add up to it. -/
theorem climb_all : ∀ c : Fin 512,
    climb 512 c.val + climb 256 c.val + climb 128 c.val + climb 64 c.val + climb 32 c.val + climb 16 c.val
      + climb 8 c.val + climb 4 c.val + climb 2 c.val + climb 1 c.val = c.val := by
  decide +kernel

/-- The shear at an index: column `c` moves up by `c` rows. -/
theorem shear_apply (y : FVec F S1024x512 .f32) (r : Fin 1024) (c : Fin 512) :
    shear y (ix2 r c) = y (ix2 (fwd r c.val) c) := by
  unfold shear
  rw [lift_apply 512 (by decide), lift_apply 256 (by decide), lift_apply 128 (by decide), lift_apply 64 (by decide),
    lift_apply 32 (by decide), lift_apply 16 (by decide), lift_apply 8 (by decide), lift_apply 4 (by decide),
    lift_apply 2 (by decide), lift_apply 1 (by decide)]
  simp only [fwd_fwd, climb_all]

/-! ## The block -/

/-- A block of one image read as an image. -/
def blockImage (x : Vec F S1x512x512 .f32) : Sq F := fun r c => x (ix3 0 r c)

/-- The accesses of the blocks start at the origin. -/
theorem origin : (![0, 0, 0] : Fin 3 → Nat) = fun _ => 0 := by decide

/-- A block of one image without its unit axis. -/
theorem flat_apply (x : Vec F S1x512x512 .f32) (r c : Fin 512) :
    shapeCast S512x512 (View.ld x r0_0) shapeCasts_S1x512x512_S512x512 (ix2 r c) = blockImage x r c := by
  rw [View.ld_unit_zero origin]
  exact shapeCast_apply x shapeCasts_S1x512x512_S512x512 (ix2 r c) (ix3 0 r c)
    (by rewrite [Shape.rowMajor_val_two, Shape.rowMajor_val_three]; show (0 * 512 + r.val) * 512 + c.val = r.val * 512 + c.val; omega)

/-- The kernel's first image. -/
theorem pay32_sq : sq (k0_pay32 x0 x1) = blockImage x0 := by
  funext r c
  exact flat_apply x0 r c

/-- The kernel's second subband. -/
theorem pay37_sq : sq (k0_pay37 x0 x1) = sub1 (blockImage x0) (blockImage x1) := by
  funext r c
  unfold sq sub1
  rw [pay37_eq, pay34_eq, scaled_apply]
  refine congrArg (tap _) ?_
  show FloatOps.addf _ _ = _
  rw [flat_apply, firCols_firRows 5 (by decide), pay32_sq]

/-- The kernel's first subband. -/
theorem first_sq : sq (addf (scaled 0x3FB504F3#32 (k0_pay32 x0 x1)) (k0_pay39 x0 x1)) = sub0 (blockImage x0) (blockImage x1) := by
  funext r c
  unfold sq sub0
  show FloatOps.addf (tap _ (sq (k0_pay32 x0 x1) r c)) (k0_pay39 x0 x1 (ix2 r c)) = _
  rw [pay32_sq, pay39_eq, firCols_firRows 6 (by decide), pay37_sq]

/-- What the body stores, as the shear of the shuffle of the two skewed subbands. -/
theorem stored_eq : k0_pay1 (k0_pay56 x0 x1) (k0_pay30 (k0_pay56 x0 x1) (k0_pay57 x0 x1) (k0_pay58 x0 x1) (k0_pay59 x0 x1))
      (k0_pay31 (k0_pay56 x0 x1) (k0_pay57 x0 x1) (k0_pay58 x0 x1) (k0_pay59 x0 x1))
    = shapeCast S1x1024x512 (shear (shuffle (stack
        (skew (BitVec.ofNat 32 0) (addf (scaled 0x3FB504F3#32 (k0_pay32 x0 x1)) (k0_pay39 x0 x1)))
        (skew (BitVec.ofNat 32 1) (k0_pay37 x0 x1))))) shapeCasts_S1024x512_S1x1024x512 := by
  rw [last_eq, pay57_eq, pay51_eq, pay44_eq, pay41_eq]
  rfl

/-- The sheared, shuffled stack at an index is the synthesis there. -/
theorem synth_apply (r : Fin 1024) (c : Fin 512) :
    shear (shuffle (stack
        (skew (BitVec.ofNat 32 0) (addf (scaled 0x3FB504F3#32 (k0_pay32 x0 x1)) (k0_pay39 x0 x1)))
        (skew (BitVec.ofNat 32 1) (k0_pay37 x0 x1)))) (ix2 r c)
      = synth (blockImage x0) (blockImage x1) r c := by
  rw [shear_apply, shuffle_apply, stack_apply, skew_apply 0 (by decide), skew_apply 1 (by decide)]
  have h0 : ∀ r c, addf (scaled 0x3FB504F3#32 (k0_pay32 x0 x1)) (k0_pay39 x0 x1) (ix2 r c)
      = sub0 (blockImage x0) (blockImage x1) r c := fun r c => congrFun (congrFun (first_sq x0 x1) r) c
  have h1 : ∀ r c, k0_pay37 x0 x1 (ix2 r c) = sub1 (blockImage x0) (blockImage x1) r c :=
    fun r c => congrFun (congrFun (pay37_sq x0 x1) r) c
  rw [h0, h1]
  unfold synth
  have hu : (fwd r c.val).val = (r.val + c.val) % 1024 := rfl
  simp only [hu, wrap_val]
  have hlt : (r.val + c.val) % 1024 < 1024 := Nat.mod_lt _ (by decide)
  generalize (r.val + c.val) % 1024 = u at hlt
  have hc := c.isLt
  by_cases he : u % 2 = 0
  · rw [if_pos he, if_pos (show u / 2 + 512 * (u % 2) < 512 by omega)]
    congr 1 <;> exact wrap_congr (by omega)
  · rw [if_neg he, if_neg (show ¬ u / 2 + 512 * (u % 2) < 512 by omega)]
    congr 1 <;> exact wrap_congr (by omega)

/-- What the body leaves in the result's buffer, at an index: the synthesis of the two blocks' images. -/
theorem out_apply (r : Fin 1024) (c : Fin 512) :
    out0_2 x0 x1 (ix3 0 r c) = synth (blockImage x0) (blockImage x1) r c := by
  unfold out0_2
  rw [View.canon_unit_zero origin, stored_eq, ← synth_apply x0 x1 r c]
  exact shapeCast_apply _ shapeCasts_S1024x512_S1x1024x512 (ix3 0 r c) (ix2 r c)
    (by rewrite [Shape.rowMajor_val_two, Shape.rowMajor_val_three]; show r.val * 512 + c.val = (0 * 1024 + r.val) * 512 + c.val; omega)

end Cert.KernelIdeal.Block

end
-- ==== Proof.KernelValue.lean ====
/- What the kernel's result array holds after a run: image by image, `synth` of the two argument images. -/
module

public import proofs.«01_k».proof.Proof.Gen.KernelIdeal.Frame
public import proofs.«01_k».proof.Proof.KernelBlock
public import Idealize.ShloMosaic.Lib.Pipeline.Value

@[expose] public section

noncomputable section

namespace Cert.KernelIdeal.Value

open Cert.KernelIdeal Cert.KernelIdeal.Gen Cert.KernelIdeal.Block Cert.Image
open Idealize.ShloMosaic hiding ix2 ix3 ix4
open Idealize.ShloMosaic.TcCoe Idealize.ShloMosaic.ValueIdx
open Idealize.SL Idealize.SL.Sem

variable {F : FTy → Type} [FloatOps F]
variable (m : (l : Loc nD τ sig) → Buf (Elt F) l)

/-! ## Where a block lies -/

/-- The first window's block at point `t` is image `t`, whole. -/
theorem index0 : ∀ t : Fin cfg0.N, win0_0.index t 0 = t.val ∧ win0_0.index t 1 = 0 ∧ win0_0.index t 2 = 0 := by decide
/-- So is the second window's. -/
theorem index1 : ∀ t : Fin cfg0.N, win0_1.index t 0 = t.val ∧ win0_1.index t 1 = 0 ∧ win0_1.index t 2 = 0 := by decide
/-- So is the third window's. -/
theorem index2 : ∀ t : Fin cfg0.N, win0_2.index t 0 = t.val ∧ win0_2.index t 1 = 0 ∧ win0_2.index t 2 = 0 := by decide

/-- A point as the number of an image. -/
def image (t : Fin cfg0.N) : Fin 12 := ⟨t.val, t.isLt⟩

/-- An element of the first window's block, as an element of its array. -/
theorem emb0 (t : Fin cfg0.N) (j : S1x512x512.Idx) : ((cfg0.win 0).blk t).view.emb j = ix3 (image t) (j 1) (j 2) := by
  obtain ⟨e0, e1, e2⟩ := index0 t
  have h0 : (j 0).val < 1 := (j 0).isLt
  funext a
  refine Fin.ext ?_
  match a with
  | ⟨0, _⟩ => show win0_0.index t (0 : Fin 3) * 1 + 1 * (j 0).val = t.val; omega
  | ⟨1, _⟩ => show win0_0.index t (1 : Fin 3) * 512 + 1 * (j 1).val = (j 1).val; omega
  | ⟨2, _⟩ => show win0_0.index t (2 : Fin 3) * 512 + 1 * (j 2).val = (j 2).val; omega

/-- An element of the second window's block, as an element of its array. -/
theorem emb1 (t : Fin cfg0.N) (j : S1x512x512.Idx) : ((cfg0.win 1).blk t).view.emb j = ix3 (image t) (j 1) (j 2) := by
  obtain ⟨e0, e1, e2⟩ := index1 t
  have h0 : (j 0).val < 1 := (j 0).isLt
  funext a
  refine Fin.ext ?_
  match a with
  | ⟨0, _⟩ => show win0_1.index t (0 : Fin 3) * 1 + 1 * (j 0).val = t.val; omega
  | ⟨1, _⟩ => show win0_1.index t (1 : Fin 3) * 512 + 1 * (j 1).val = (j 1).val; omega
  | ⟨2, _⟩ => show win0_1.index t (2 : Fin 3) * 512 + 1 * (j 2).val = (j 2).val; omega

/-- An element of the third window's block, as an element of its array. -/
theorem emb2 (t : Fin cfg0.N) (j : S1x1024x512.Idx) : ((cfg0.win 2).blk t).view.emb j = ix3 (image t) (j 1) (j 2) := by
  obtain ⟨e0, e1, e2⟩ := index2 t
  have h0 : (j 0).val < 1 := (j 0).isLt
  funext a
  refine Fin.ext ?_
  match a with
  | ⟨0, _⟩ => show win0_2.index t (0 : Fin 3) * 1 + 1 * (j 0).val = t.val; omega
  | ⟨1, _⟩ => show win0_2.index t (1 : Fin 3) * 1024 + 1 * (j 1).val = (j 1).val; omega
  | ⟨2, _⟩ => show win0_2.index t (2 : Fin 3) * 512 + 1 * (j 2).val = (j 2).val; omega

/-! ## The array of twelve images -/

/-- Image `i` of an array of twelve. -/
def nth (x : (⟨S12x512x512, .f32⟩ : BufTy).Contents (Elt F)) (i : Fin 12) : Sq F := fun r c => x (ix3 i r c)

/-- The array of the twelve images `synth` makes of two arrays of twelve. -/
def synthAll (x0 x1 : (⟨S12x512x512, .f32⟩ : BufTy).Contents (Elt F)) : (⟨S12x1024x512, .f32⟩ : BufTy).Contents (Elt F) :=
  fun i => synth (nth x0 (i 0)) (nth x1 (i 0)) (i 1) (i 2)

/-- The first window's block at point `t` is image `t` of the first array. -/
theorem block0 (c : Dev nD) (t : Fin cfg0.N) : blockImage (iblk m c 0 t) = nth (V m c main_call0_v0) (image t) := by
  funext r s
  show V m c main_call0_v0 (((cfg0.win 0).blk t).view.emb (ix3 (0 : Fin 1) r s)) = _
  rw [emb0]
  rfl

/-- The second window's block at point `t` is image `t` of the second array. -/
theorem block1 (c : Dev nD) (t : Fin cfg0.N) : blockImage (iblk m c 1 t) = nth (V m c main_call0_v1) (image t) := by
  funext r s
  show V m c main_call0_v1 (((cfg0.win 1).blk t).view.emb (ix3 (0 : Fin 1) r s)) = _
  rw [emb1]
  rfl

/-- What point `t` writes back is its block of the twelve images. -/
theorem flushed_eq (c : Dev nD) (t : Fin cfg0.N) :
    (dats m 0 c).flushed 2 t
      = ((cfg0.win 2).blk t).view.read (Elt F) (synthAll (V m c main_call0_v0) (V m c main_call0_v1)) := by
  show (cfg0.win 2).cut (grid0.coords t) ((dats m 0 c).after 2 t) = _
  rw [after0_2]
  refine funext fun (j : S1x1024x512.Idx) => ?_
  show out0_2 (iblk m c 0 t) (iblk m c 1 t) j = synthAll (V m c main_call0_v0) (V m c main_call0_v1) (((cfg0.win 2).blk t).view.emb j)
  rw [emb2]
  have hj : j = ix3 (n0 := 1) (n1 := 1024) (n2 := 512) 0 (j 1) (j 2) := by
    funext a
    match a with
    | ⟨0, _⟩ => exact Fin.ext (by have h0 : (j 0).val < 1 := (j 0).isLt; show (j 0).val = 0; omega)
    | ⟨1, _⟩ => rfl
    | ⟨2, _⟩ => rfl
  refine (congrArg (out0_2 (iblk m c 0 t) (iblk m c 1 t)) hj).trans ?_
  refine (out_apply (iblk m c 0 t) (iblk m c 1 t) (j 1) (j 2)).trans ?_
  rw [block0, block1]
  rfl

/-- Every element of the array lies in the block of its image's point. -/
theorem covered (i : S12x1024x512.Idx) :
    ∃ t : Fin cfg0.N, (cfg0.win 2).flush t = true ∧ i ∈ ((cfg0.win 2).blk t).view.set := by
  refine ⟨⟨(i 0).val, (i 0).isLt⟩, flush0_2 _, ?_⟩
  have h := ((cfg0.win 2).blk (⟨(i 0).val, (i 0).isLt⟩ : Fin cfg0.N)).view.emb_mem_set (ix3 (0 : Fin 1) (i 1) (i 2) : S1x1024x512.Idx)
  rw [emb2] at h
  have hi : ix3 (n0 := 12) (n1 := 1024) (n2 := 512) (image ⟨(i 0).val, (i 0).isLt⟩) (i 1) (i 2) = i := by
    funext a
    match a with
    | ⟨0, _⟩ => rfl
    | ⟨1, _⟩ => rfl
    | ⟨2, _⟩ => rfl
  exact hi ▸ h

/-- The array the kernel writes ends holding the twelve images. -/
theorem array (c : Dev nD) :
    (dats m 0 c).arrAt 2 cfg0.N = synthAll (V m c main_call0_v0) (V m c main_call0_v1) :=
  (dats m 0 c).arrAt_eq_of_cover 2 (synthAll (V m c main_call0_v0) (V m c main_call0_v1)) (fun t _ => flushed_eq m c t) covered

/-! ## The reshapes around it -/

/-- The first array the kernel reads is the first argument, its first two axes taken together. -/
theorem arg0_flat (c : Dev nD) :
    V m c main_call0_v0 = shapeCast S12x512x512 (m ((c : Thread nD τ).loc main_arg0)) shapeCasts_S4x3x512x512_S12x512x512 := by
  show StableHlo.after hostOps0 _ _ = _
  rw [StableHlo.after_cons, StableHlo.after_cons, StableHlo.after_nil, StableHlo.reshape_result_ne _ _ _ _ _ _ _ (by decide),
    StableHlo.reshape_result]
  rfl

/-- The same of the second argument. -/
theorem arg1_flat (c : Dev nD) :
    V m c main_call0_v1 = shapeCast S12x512x512 (m ((c : Thread nD τ).loc main_arg1)) shapeCasts_S4x3x512x512_S12x512x512 := by
  show StableHlo.after hostOps0 _ _ = _
  rw [StableHlo.after_cons, StableHlo.after_cons, StableHlo.after_nil, StableHlo.reshape_result,
    StableHlo.reshape_result_ne _ _ _ _ _ _ _ (by decide)]
  rfl

/-- The result is the array the kernel writes, its first axis taken apart again. -/
theorem result_flat (c : Dev nD) :
    Pipeline.afterTail₀ cfgs (dats m) 0 (V0 m) [hostOps1] c main_v0
      = shapeCast S4x3x1024x512 ((dats m 0 c).arrAt 2 cfg0.N) shapeCasts_S12x1024x512_S4x3x1024x512 := by
  unfold Pipeline.afterTail₀
  show StableHlo.after hostOps1 _ _ = _
  rw [StableHlo.after_cons, StableHlo.after_nil, StableHlo.reshape_result]
  exact congrArg (fun z => shapeCast S4x3x1024x512 z shapeCasts_S12x1024x512_S4x3x1024x512)
    (Pipeline.withArrays_arr spec0 launch0.win.arr_inj c (V0 m c) (fun w => (dats m 0 c).arrAt w cfg0.N) 2)

/-- The number of image `ch` of batch member `n`. -/
def number (n : Fin 4) (ch : Fin 3) : Fin 12 := ⟨n.val * 3 + ch.val, by have := n.isLt; have := ch.isLt; omega⟩

/-- Image `number n ch` of the flattened array is image `ch` of batch member `n`. -/
theorem nth_flat (x : (⟨S4x3x512x512, .f32⟩ : BufTy).Contents (Elt F)) (n : Fin 4) (ch : Fin 3) :
    nth (shapeCast S12x512x512 x shapeCasts_S4x3x512x512_S12x512x512) (number n ch) = fun r c => x (ix4 n ch r c) := by
  funext r c
  refine shapeCast_apply x shapeCasts_S4x3x512x512_S12x512x512 _ (ix4 n ch r c) ?_
  rw [Shape.rowMajor_val_four, Shape.rowMajor_val_three]
  rfl

/-- The result at `(n, ch, r, c)`: `synth` of the arguments' images `(n, ch)`, at `(r, c)`. -/
theorem result_at (c : Dev nD) (n : Fin 4) (ch : Fin 3) (r : Fin 1024) (s : Fin 512) :
    Pipeline.afterTail₀ cfgs (dats m) 0 (V0 m) [hostOps1] c main_v0 (ix4 n ch r s)
      = synth (fun a b => m ((c : Thread nD τ).loc main_arg0) (ix4 n ch a b))
          (fun a b => m ((c : Thread nD τ).loc main_arg1) (ix4 n ch a b)) r s := by
  rw [result_flat, array, arg0_flat, arg1_flat]
  refine (shapeCast_apply _ shapeCasts_S12x1024x512_S4x3x1024x512 (ix4 n ch r s) (ix3 (number n ch) r s) ?_).trans ?_
  · rw [Shape.rowMajor_val_four, Shape.rowMajor_val_three]
    rfl
  · show synth (nth _ (number n ch)) (nth _ (number n ch)) r s = _
    rw [nth_flat, nth_flat]

end Cert.KernelIdeal.Value

end
-- ==== Proof.RefFilter.lean ====
/- What the reference's ladder computes: its two subbands, read at an index, are the two subbands of `Image`. -/
module

public import proofs.«01_k».proof.Proof.Gen.ReferenceIdeal.Read
public import proofs.«01_k».proof.Proof.Image

@[expose] public section

noncomputable section

namespace Cert.ReferenceIdeal.Filter

open Cert.ReferenceIdeal Cert.ReferenceIdeal.Gen Cert.ReferenceIdeal.Read Cert.Image
open Idealize.ShloMosaic Idealize.ShloMosaic.ValueIdx

variable {F : FTy → Type} [FloatOps F]

/-! ## An array extended around the circle -/

section Extend
variable {α : Type}

/-- Three pieces joined along the rows: the last `p` rows of an array, the array, its first `q` rows. Row `a` of
    the result is row `a - p` of the array, around the circle. -/
theorem extend_rows {p q m : Nat} (hpq : p + q = 11) (y : (⟨4, ![4, 3, 512, m]⟩ : Shape).Idx → α)
    (u : (⟨4, ![4, 3, p, m]⟩ : Shape).Idx → α) (v : (⟨4, ![4, 3, q, m]⟩ : Shape).Idx → α)
    (hu : ∀ n ch a c, u (ix4 n ch a c) = y (ix4 n ch (wrap (a.val + (512 - p))) c))
    (hv : ∀ n ch a c, v (ix4 n ch a c) = y (ix4 n ch (wrap a.val) c))
    (h : Shape.Concatenates [⟨4, ![4, 3, p, m]⟩, ⟨4, ![4, 3, 512, m]⟩, ⟨4, ![4, 3, q, m]⟩] ⟨4, ![4, 3, 523, m]⟩ 2)
    (n : Fin 4) (ch : Fin 3) (a : Fin 523) (c : Fin m) :
    concatenate ⟨4, ![4, 3, 523, m]⟩ 2 [⟨⟨4, ![4, 3, p, m]⟩, u⟩, ⟨⟨4, ![4, 3, 512, m]⟩, y⟩, ⟨⟨4, ![4, 3, q, m]⟩, v⟩] h (ix4 n ch a c)
      = y (ix4 n ch (wrap (a.val + (512 - p))) c) := by
  have ha := a.isLt
  by_cases h1 : a.val < p
  · rw [concatenate_apply_piece 2 [⟨⟨4, ![4, 3, p, m]⟩, u⟩, ⟨⟨4, ![4, 3, 512, m]⟩, y⟩, ⟨⟨4, ![4, 3, q, m]⟩, v⟩] h (ix4 n ch a c) 0 (Nat.zero_lt_succ _) ⟨4, ![4, 3, p, m]⟩ u rfl rfl 0 rfl (ix4 n ch ⟨a.val, h1⟩ c)
      (fun b hb => match b with | ⟨0, _⟩ => rfl | ⟨1, _⟩ => rfl | ⟨2, _⟩ => absurd rfl hb | ⟨3, _⟩ => rfl)
      (Nat.zero_add _), hu]
  · by_cases h2 : a.val < p + 512
    · rw [concatenate_apply_piece 2 [⟨⟨4, ![4, 3, p, m]⟩, u⟩, ⟨⟨4, ![4, 3, 512, m]⟩, y⟩, ⟨⟨4, ![4, 3, q, m]⟩, v⟩] h (ix4 n ch a c) 1 (Nat.lt_of_sub_pos (Nat.zero_lt_succ _)) ⟨4, ![4, 3, 512, m]⟩ y rfl rfl p rfl
        (ix4 n ch ⟨a.val - p, by omega⟩ c)
        (fun b hb => match b with | ⟨0, _⟩ => rfl | ⟨1, _⟩ => rfl | ⟨2, _⟩ => absurd rfl hb | ⟨3, _⟩ => rfl)
        (by show p + (a.val - p) = a.val; omega)]
      exact congrArg (fun z => y (ix4 n ch z c)) (Fin.ext (by show a.val - p = (a.val + (512 - p)) % 512; omega))
    · rw [concatenate_apply_piece 2 [⟨⟨4, ![4, 3, p, m]⟩, u⟩, ⟨⟨4, ![4, 3, 512, m]⟩, y⟩, ⟨⟨4, ![4, 3, q, m]⟩, v⟩] h (ix4 n ch a c) 2 (Nat.lt_of_sub_pos (Nat.zero_lt_succ _)) ⟨4, ![4, 3, q, m]⟩ v rfl rfl (p + 512) rfl
        (ix4 n ch ⟨a.val - (p + 512), by omega⟩ c)
        (fun b hb => match b with | ⟨0, _⟩ => rfl | ⟨1, _⟩ => rfl | ⟨2, _⟩ => absurd rfl hb | ⟨3, _⟩ => rfl)
        (by show p + 512 + (a.val - (p + 512)) = a.val; omega), hv]
      exact congrArg (fun z => y (ix4 n ch z c)) (wrap_congr (by show (a.val - (p + 512)) % 512 = _; omega))

/-- The same along the columns. -/
theorem extend_cols {p q m : Nat} (hpq : p + q = 11) (y : (⟨4, ![4, 3, m, 512]⟩ : Shape).Idx → α)
    (u : (⟨4, ![4, 3, m, p]⟩ : Shape).Idx → α) (v : (⟨4, ![4, 3, m, q]⟩ : Shape).Idx → α)
    (hu : ∀ n ch r a, u (ix4 n ch r a) = y (ix4 n ch r (wrap (a.val + (512 - p)))))
    (hv : ∀ n ch r a, v (ix4 n ch r a) = y (ix4 n ch r (wrap a.val)))
    (h : Shape.Concatenates [⟨4, ![4, 3, m, p]⟩, ⟨4, ![4, 3, m, 512]⟩, ⟨4, ![4, 3, m, q]⟩] ⟨4, ![4, 3, m, 523]⟩ 3)
    (n : Fin 4) (ch : Fin 3) (r : Fin m) (a : Fin 523) :
    concatenate ⟨4, ![4, 3, m, 523]⟩ 3 [⟨⟨4, ![4, 3, m, p]⟩, u⟩, ⟨⟨4, ![4, 3, m, 512]⟩, y⟩, ⟨⟨4, ![4, 3, m, q]⟩, v⟩] h (ix4 n ch r a)
      = y (ix4 n ch r (wrap (a.val + (512 - p)))) := by
  have ha := a.isLt
  by_cases h1 : a.val < p
  · rw [concatenate_apply_piece 3 [⟨⟨4, ![4, 3, m, p]⟩, u⟩, ⟨⟨4, ![4, 3, m, 512]⟩, y⟩, ⟨⟨4, ![4, 3, m, q]⟩, v⟩] h (ix4 n ch r a) 0 (Nat.zero_lt_succ _) ⟨4, ![4, 3, m, p]⟩ u rfl rfl 0 rfl (ix4 n ch r ⟨a.val, h1⟩)
      (fun b hb => match b with | ⟨0, _⟩ => rfl | ⟨1, _⟩ => rfl | ⟨2, _⟩ => rfl | ⟨3, _⟩ => absurd rfl hb)
      (Nat.zero_add _), hu]
  · by_cases h2 : a.val < p + 512
    · rw [concatenate_apply_piece 3 [⟨⟨4, ![4, 3, m, p]⟩, u⟩, ⟨⟨4, ![4, 3, m, 512]⟩, y⟩, ⟨⟨4, ![4, 3, m, q]⟩, v⟩] h (ix4 n ch r a) 1 (Nat.lt_of_sub_pos (Nat.zero_lt_succ _)) ⟨4, ![4, 3, m, 512]⟩ y rfl rfl p rfl
        (ix4 n ch r ⟨a.val - p, by omega⟩)
        (fun b hb => match b with | ⟨0, _⟩ => rfl | ⟨1, _⟩ => rfl | ⟨2, _⟩ => rfl | ⟨3, _⟩ => absurd rfl hb)
        (by show p + (a.val - p) = a.val; omega)]
      exact congrArg (fun z => y (ix4 n ch r z)) (Fin.ext (by show a.val - p = (a.val + (512 - p)) % 512; omega))
    · rw [concatenate_apply_piece 3 [⟨⟨4, ![4, 3, m, p]⟩, u⟩, ⟨⟨4, ![4, 3, m, 512]⟩, y⟩, ⟨⟨4, ![4, 3, m, q]⟩, v⟩] h (ix4 n ch r a) 2 (Nat.lt_of_sub_pos (Nat.zero_lt_succ _)) ⟨4, ![4, 3, m, q]⟩ v rfl rfl (p + 512) rfl
        (ix4 n ch r ⟨a.val - (p + 512), by omega⟩)
        (fun b hb => match b with | ⟨0, _⟩ => rfl | ⟨1, _⟩ => rfl | ⟨2, _⟩ => rfl | ⟨3, _⟩ => absurd rfl hb)
        (by show p + 512 + (a.val - (p + 512)) = a.val; omega), hv]
      exact congrArg (fun z => y (ix4 n ch r z)) (wrap_congr (by show (a.val - (p + 512)) % 512 = _; omega))

end Extend

/-! ## The filters along one axis -/

/-- The index that a slice beginning `t` rows down reads for `i`. -/
def down (t : Nat) (i : S4x3x512x523.Idx) : S4x3x523x523.Idx := fun a =>
  ⟨(![0, 0, min t 11, 0] : Fin 4 → Nat) a + (i a).val, match a with
    | ⟨0, _⟩ => by have h : (i 0).val < 4 := (i 0).isLt; show 0 + (i 0).val < 4; omega
    | ⟨1, _⟩ => by have h : (i 1).val < 3 := (i 1).isLt; show 0 + (i 1).val < 3; omega
    | ⟨2, _⟩ => by have h : (i 2).val < 512 := (i 2).isLt; show min t 11 + (i 2).val < 523; omega
    | ⟨3, _⟩ => by have h : (i 3).val < 523 := (i 3).isLt; show 0 + (i 3).val < 523; omega⟩

/-- The index that a slice beginning `t` columns on reads for `i`. -/
def right (t : Nat) (i : S4x3x512x512.Idx) : S4x3x512x523.Idx := fun a =>
  ⟨(![0, 0, 0, min t 11] : Fin 4 → Nat) a + (i a).val, match a with
    | ⟨0, _⟩ => by have h : (i 0).val < 4 := (i 0).isLt; show 0 + (i 0).val < 4; omega
    | ⟨1, _⟩ => by have h : (i 1).val < 3 := (i 1).isLt; show 0 + (i 1).val < 3; omega
    | ⟨2, _⟩ => by have h : (i 2).val < 512 := (i 2).isLt; show 0 + (i 2).val < 512; omega
    | ⟨3, _⟩ => by have h : (i 3).val < 512 := (i 3).isLt; show min t 11 + (i 3).val < 523; omega⟩

/-- A position in an extended array. -/
def pos (n : Nat) : Fin 523 := ⟨n % 523, Nat.mod_lt _ (by decide)⟩

/-- `down` in coordinates. -/
theorem down_ix (t : Nat) (ht : t < 12) (n : Fin 4) (ch : Fin 3) (r : Fin 512) (c : Fin 523) :
    down t (ix4 n ch r c) = ix4 n ch (pos (r.val + t)) c := by
  have hr := r.isLt
  funext a
  match a with
  | ⟨0, _⟩ => exact Fin.ext (Nat.zero_add _)
  | ⟨1, _⟩ => exact Fin.ext (Nat.zero_add _)
  | ⟨2, _⟩ => exact Fin.ext (by show min t 11 + r.val = (r.val + t) % 523; omega)
  | ⟨3, _⟩ => exact Fin.ext (Nat.zero_add _)

/-- `right` in coordinates. -/
theorem right_ix (t : Nat) (ht : t < 12) (n : Fin 4) (ch : Fin 3) (r : Fin 512) (c : Fin 512) :
    right t (ix4 n ch r c) = ix4 n ch r (pos (c.val + t)) := by
  have hc := c.isLt
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (by show min t 11 + c.val = (c.val + t) % 523; omega)

variable (x0 x1 : (⟨S4x3x512x512, .f32⟩ : BufTy).Contents (Elt F))

/-- The first image filtered down the columns. -/
theorem v52_fir (i : S4x3x512x523.Idx) :
    val_main_v52 (F := F) x0 i = fir fun t => val_main_v5 (F := F) x0 (down t i) := rfl

/-- And then along the rows. -/
theorem v99_fir (i : S4x3x512x512.Idx) :
    val_main_v99 (F := F) x0 i = fir fun t => val_main_v52 (F := F) x0 (right t i) := rfl

/-- The second subband filtered down the columns. -/
theorem v157_fir (i : S4x3x512x523.Idx) :
    val_main_v157 (F := F) x0 x1 i = fir fun t => val_main_v110 (F := F) x0 x1 (down t i) := rfl

/-- And then along the rows. -/
theorem v204_fir (i : S4x3x512x512.Idx) :
    val_main_v204 (F := F) x0 x1 i = fir fun t => val_main_v157 (F := F) x0 x1 (right t i) := rfl

/-! ## The extended arrays at an index -/

/-- The index a slice of rows reads, given the row it comes to. -/
theorem slice_rows {p m : Nat} (off : Nat)
    (h : ∀ a : Fin 4, (![0, 0, off, 0] : Fin 4 → Nat) a + (![4, 3, p, m] : Fin 4 → Nat) a ≤ (![4, 3, 512, m] : Fin 4 → Nat) a)
    (n : Fin 4) (ch : Fin 3) (a : Fin p) (c : Fin m) {k : Fin 512} (hk : off + a.val = k.val) :
    (fun b => ⟨(![0, 0, off, 0] : Fin 4 → Nat) b + ((ix4 n ch a c) b).val,
        Nat.lt_of_lt_of_le (Nat.add_lt_add_left ((ix4 n ch a c) b).isLt _) (h b)⟩ : (⟨4, ![4, 3, 512, m]⟩ : Shape).Idx)
      = ix4 n ch k c := by
  funext b
  match b with
  | ⟨0, _⟩ => exact Fin.ext (Nat.zero_add _)
  | ⟨1, _⟩ => exact Fin.ext (Nat.zero_add _)
  | ⟨2, _⟩ => exact Fin.ext hk
  | ⟨3, _⟩ => exact Fin.ext (Nat.zero_add _)

/-- The index a slice of columns reads, given the column it comes to. -/
theorem slice_cols {p m : Nat} (off : Nat)
    (h : ∀ a : Fin 4, (![0, 0, 0, off] : Fin 4 → Nat) a + (![4, 3, m, p] : Fin 4 → Nat) a ≤ (![4, 3, m, 512] : Fin 4 → Nat) a)
    (n : Fin 4) (ch : Fin 3) (r : Fin m) (a : Fin p) {k : Fin 512} (hk : off + a.val = k.val) :
    (fun b => ⟨(![0, 0, 0, off] : Fin 4 → Nat) b + ((ix4 n ch r a) b).val,
        Nat.lt_of_lt_of_le (Nat.add_lt_add_left ((ix4 n ch r a) b).isLt _) (h b)⟩ : (⟨4, ![4, 3, m, 512]⟩ : Shape).Idx)
      = ix4 n ch r k := by
  funext b
  match b with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext hk

/-- Image `ch` of batch member `n`. -/
def imageOf (x : (⟨S4x3x512x512, .f32⟩ : BufTy).Contents (Elt F)) (n : Fin 4) (ch : Fin 3) : Sq F :=
  fun r c => x (ix4 n ch r c)

/-- The first image extended by five rows and columns before and six after. -/
theorem v5_at (n : Fin 4) (ch : Fin 3) (a b : Fin 523) :
    val_main_v5 (F := F) x0 (ix4 n ch a b) = imageOf x0 n ch (wrap (a.val + 507)) (wrap (b.val + 507)) := by
  have ha := a.isLt
  have hb := b.isLt
  unfold val_main_v5
  refine (extend_cols (p := 5) (q := 6) rfl (val_main_v2 (F := F) x0) (val_main_v3 (F := F) x0) (val_main_v4 (F := F) x0)
    (fun n ch r d => ?_) (fun n ch r d => ?_) _ n ch a b).trans ?_
  · exact congrArg (val_main_v2 (F := F) x0) (slice_cols 507 (by decide) n ch r d
      (by have hd := d.isLt; show 507 + d.val = (d.val + (512 - 5)) % 512; omega))
  · exact congrArg (val_main_v2 (F := F) x0) (slice_cols 0 (by decide) n ch r d
      (by have hd := d.isLt; show 0 + d.val = d.val % 512; omega))
  · unfold val_main_v2
    refine (extend_rows (p := 5) (q := 6) rfl x0 (val_main_v0 (F := F) x0) (val_main_v1 (F := F) x0)
      (fun n ch d r => ?_) (fun n ch d r => ?_) _ n ch a (wrap (b.val + 507))).trans rfl
    · exact congrArg x0 (slice_rows 507 (by decide) n ch d r
        (by have hd := d.isLt; show 507 + d.val = (d.val + (512 - 5)) % 512; omega))
    · exact congrArg x0 (slice_rows 0 (by decide) n ch d r
        (by have hd := d.isLt; show 0 + d.val = d.val % 512; omega))

/-- The second subband's image extended by six rows and columns before and five after. -/
theorem v110_at (n : Fin 4) (ch : Fin 3) (a b : Fin 523) :
    val_main_v110 (F := F) x0 x1 (ix4 n ch a b)
      = imageOf (val_main_v102 (F := F) x0 x1) n ch (wrap (a.val + 506)) (wrap (b.val + 506)) := by
  have ha := a.isLt
  have hb := b.isLt
  unfold val_main_v110
  refine (extend_cols (p := 6) (q := 5) rfl (val_main_v107 (F := F) x0 x1) (val_main_v108 (F := F) x0 x1) (val_main_v109 (F := F) x0 x1)
    (fun n ch r d => ?_) (fun n ch r d => ?_) _ n ch a b).trans ?_
  · exact congrArg (val_main_v107 (F := F) x0 x1) (slice_cols 506 (by decide) n ch r d
      (by have hd := d.isLt; show 506 + d.val = (d.val + (512 - 6)) % 512; omega))
  · exact congrArg (val_main_v107 (F := F) x0 x1) (slice_cols 0 (by decide) n ch r d
      (by have hd := d.isLt; show 0 + d.val = d.val % 512; omega))
  · unfold val_main_v107
    refine (extend_rows (p := 6) (q := 5) rfl (val_main_v102 (F := F) x0 x1) (val_main_v105 (F := F) x0 x1) (val_main_v106 (F := F) x0 x1)
      (fun n ch d r => ?_) (fun n ch d r => ?_) _ n ch a (wrap (b.val + 506))).trans rfl
    · exact congrArg (val_main_v102 (F := F) x0 x1) (slice_rows 506 (by decide) n ch d r
        (by have hd := d.isLt; show 506 + d.val = (d.val + (512 - 6)) % 512; omega))
    · exact congrArg (val_main_v102 (F := F) x0 x1) (slice_rows 0 (by decide) n ch d r
        (by have hd := d.isLt; show 0 + d.val = d.val % 512; omega))

/-! ## The two subbands -/

/-- The first correlation is `conv` of the first image. -/
theorem v99_at (n : Fin 4) (ch : Fin 3) (r c : Fin 512) :
    val_main_v99 (F := F) x0 (ix4 n ch r c) = conv 507 (imageOf x0 n ch) r c := by
  rw [v99_fir]
  refine fir_congr fun s hs => ?_
  rw [right_ix s hs, v52_fir]
  refine fir_congr fun t ht => ?_
  rw [down_ix t ht, v5_at]
  have hr := r.isLt
  have hc := c.isLt
  exact congrArg₂ (imageOf x0 n ch) (wrap_congr (by show ((r.val + t) % 523 + 507) % 512 = _; omega))
    (wrap_congr (by show ((c.val + s) % 523 + 507) % 512 = _; omega))

/-- The second correlation is `conv` of the second subband's image. -/
theorem v204_at (n : Fin 4) (ch : Fin 3) (r c : Fin 512) :
    val_main_v204 (F := F) x0 x1 (ix4 n ch r c) = conv 506 (imageOf (val_main_v102 (F := F) x0 x1) n ch) r c := by
  rw [v204_fir]
  refine fir_congr fun s hs => ?_
  rw [right_ix s hs, v157_fir]
  refine fir_congr fun t ht => ?_
  rw [down_ix t ht, v110_at]
  have hr := r.isLt
  have hc := c.isLt
  exact congrArg₂ (imageOf (val_main_v102 (F := F) x0 x1) n ch)
    (wrap_congr (by show ((r.val + t) % 523 + 506) % 512 = _; omega))
    (wrap_congr (by show ((c.val + s) % 523 + 506) % 512 = _; omega))

/-- The second subband's image is `sub1` of the two images. -/
theorem v102_image (n : Fin 4) (ch : Fin 3) :
    imageOf (val_main_v102 (F := F) x0 x1) n ch = sub1 (imageOf x0 n ch) (imageOf x1 n ch) := by
  funext r c
  show val_main_v102 (F := F) x0 x1 (ix4 n ch r c) = _
  unfold sub1
  rw [← v99_at]
  rfl

/-- The first subband's image is `sub0` of the two images. -/
theorem v205_image (n : Fin 4) (ch : Fin 3) :
    imageOf (val_main_v205 (F := F) x0 x1) n ch = sub0 (imageOf x0 n ch) (imageOf x1 n ch) := by
  funext r c
  show val_main_v205 (F := F) x0 x1 (ix4 n ch r c) = _
  unfold sub0
  rw [← v102_image, ← v204_at]
  rfl

end Cert.ReferenceIdeal.Filter

end
-- ==== Proof.RefGather.lean ====
/- The two kinds of gather the reference resamples with, each read at an index, and the arithmetic of the index words. -/
module

public import Idealize.ShloMosaic.Lib.ValueIdxCore
public import Idealize.ShloMosaic.Lib.Routing.Words

@[expose] public section

noncomputable section

namespace Cert.Gathered

open Idealize.ShloMosaic
open Idealize.ShloMosaic.ValueIdx

variable {α : Type}

/-! ## A gather along the last of three axes -/

/-- The dimension numbers of a gather from a `4 × 3 × N` array along its last axis, one position to an index. -/
abbrev lastDims (N K : Nat)
    (wf : GatherDims.WF ⟨3, ![4, 3, N]⟩ ⟨2, ![K, 1]⟩ ⟨3, ![4, 3, K]⟩ [0, 1] [2] [] [2] [] 1 ![4, 3, 1]) :
    GatherDims ⟨3, ![4, 3, N]⟩ ⟨2, ![K, 1]⟩ ⟨3, ![4, 3, K]⟩ where
  offsetDims := [0, 1]
  collapsedSliceDims := [2]
  operandBatchingDims := []
  startIndicesBatchingDims := []
  startIndexMap := [2]
  indexVectorDim := 1
  sliceSizes := ![4, 3, 1]
  wf := wf

/-- Where the index word at `k` is the number `e` of a position, the gather at `(n, ch, k)` is the operand at `(n, ch, e)`. -/
theorem last_at {N K : Nat}
    (wf : GatherDims.WF ⟨3, ![4, 3, N]⟩ ⟨2, ![K, 1]⟩ ⟨3, ![4, 3, K]⟩ [0, 1] [2] [] [2] [] 1 ![4, 3, 1])
    (x : (⟨3, ![4, 3, N]⟩ : Shape).Idx → α) (idx : IVec ⟨2, ![K, 1]⟩ 32) (n : Fin 4) (ch : Fin 3) (k : Fin K)
    (e : Fin N) (he : (idx (ix2 k 0)).toInt.toNat = e.val) :
    Host.gather (lastDims N K wf) x idx (ix3 n ch k) = x (ix3 n ch e) := by
  refine congrArg x (funext fun a => Fin.ext ?_)
  show (lastDims N K wf).start (ix3 n ch k) idx a + (lastDims N K wf).batchCoord (ix3 n ch k) a
    + (lastDims N K wf).offCoord (ix3 n ch k) a = _
  rw [GatherDims.batchCoord_eq_zero _ _ _ List.not_mem_nil, Nat.add_zero]
  match a with
  | ⟨0, _⟩ => exact Nat.zero_add _
  | ⟨1, _⟩ => exact Nat.zero_add _
  | ⟨2, _⟩ =>
    have hw : (lastDims N K wf).siIdx (ix3 n ch k) ⟨0, Nat.zero_lt_one⟩ = ix2 k 0 := by
      funext b
      match b with
      | ⟨0, _⟩ => rfl
      | ⟨1, _⟩ => rfl
    have hs : (lastDims N K wf).start (ix3 n ch k) idx 2
        = min (idx ((lastDims N K wf).siIdx (ix3 n ch k) ⟨0, Nat.zero_lt_one⟩)).toInt.toNat (N - 1) := rfl
    rw [hw, he] at hs
    have ho : (lastDims N K wf).offCoord (ix3 n ch k) 2 = 0 := rfl
    have hl := e.isLt
    show (lastDims N K wf).start (ix3 n ch k) idx 2 + (lastDims N K wf).offCoord (ix3 n ch k) 2 = e.val
    rw [hs, ho]
    omega

/-! ## A gather of rows -/

/-- The dimension numbers of a gather of rows from a `4 × 3 × N × C` array, one row to an index. -/
abbrev rowDims (N K C : Nat)
    (wf : GatherDims.WF ⟨4, ![4, 3, N, C]⟩ ⟨2, ![K, 1]⟩ ⟨4, ![4, 3, K, C]⟩ [0, 1, 3] [2] [] [2] [] 1 ![4, 3, 1, C]) :
    GatherDims ⟨4, ![4, 3, N, C]⟩ ⟨2, ![K, 1]⟩ ⟨4, ![4, 3, K, C]⟩ where
  offsetDims := [0, 1, 3]
  collapsedSliceDims := [2]
  operandBatchingDims := []
  startIndicesBatchingDims := []
  startIndexMap := [2]
  indexVectorDim := 1
  sliceSizes := ![4, 3, 1, C]
  wf := wf

/-- Where the index word at `k` is the number `e` of a row, row `k` of the gather is row `e` of the operand. -/
theorem row_at {N K C : Nat}
    (wf : GatherDims.WF ⟨4, ![4, 3, N, C]⟩ ⟨2, ![K, 1]⟩ ⟨4, ![4, 3, K, C]⟩ [0, 1, 3] [2] [] [2] [] 1 ![4, 3, 1, C])
    (x : (⟨4, ![4, 3, N, C]⟩ : Shape).Idx → α) (idx : IVec ⟨2, ![K, 1]⟩ 32) (n : Fin 4) (ch : Fin 3) (k : Fin K) (c : Fin C)
    (e : Fin N) (he : (idx (ix2 k 0)).toInt.toNat = e.val) :
    Host.gather (rowDims N K C wf) x idx (ix4 n ch k c) = x (ix4 n ch e c) := by
  refine congrArg x (funext fun a => Fin.ext ?_)
  show (rowDims N K C wf).start (ix4 n ch k c) idx a + (rowDims N K C wf).batchCoord (ix4 n ch k c) a
    + (rowDims N K C wf).offCoord (ix4 n ch k c) a = _
  rw [GatherDims.batchCoord_eq_zero _ _ _ List.not_mem_nil, Nat.add_zero]
  match a with
  | ⟨0, _⟩ => exact Nat.zero_add _
  | ⟨1, _⟩ => exact Nat.zero_add _
  | ⟨3, _⟩ => exact Nat.zero_add _
  | ⟨2, _⟩ =>
    have hw : (rowDims N K C wf).siIdx (ix4 n ch k c) ⟨0, Nat.zero_lt_one⟩ = ix2 k 0 := by
      funext b
      match b with
      | ⟨0, _⟩ => rfl
      | ⟨1, _⟩ => rfl
    have hs : (rowDims N K C wf).start (ix4 n ch k c) idx 2
        = min (idx ((rowDims N K C wf).siIdx (ix4 n ch k c) ⟨0, Nat.zero_lt_one⟩)).toInt.toNat (N - 1) := rfl
    rw [hw, he] at hs
    have ho : (rowDims N K C wf).offCoord (ix4 n ch k c) 2 = 0 := rfl
    have hl := e.isLt
    show (rowDims N K C wf).start (ix4 n ch k c) idx 2 + (rowDims N K C wf).offCoord (ix4 n ch k c) 2 = e.val
    rw [hs, ho]
    omega

/-! ## Index words -/

/-- A small number's word, read signed, is the number. -/
theorem word_toNat {a : Nat} (h : a < 2 ^ 31) : (BitVec.ofNat 32 a).toInt.toNat = a := by
  have e : (BitVec.ofNat 32 a).toInt = (a : Int) := by
    rw [BitVec.toInt_eq_toNat_of_lt]
    · rw [BitVec.toNat_ofNat, Nat.mod_eq_of_lt (by omega)]
    · rw [BitVec.toNat_ofNat, Nat.mod_eq_of_lt (by omega)]; omega
  rw [e]
  rfl

/-- Subtraction of words that does not go below zero. -/
theorem word_sub {a b : Nat} (h : b ≤ a) (ha : a < 2 ^ 31) :
    BitVec.ofNat 32 a - BitVec.ofNat 32 b = BitVec.ofNat 32 (a - b) := by
  refine BitVec.eq_of_toNat_eq ?_
  simp only [BitVec.toNat_sub, BitVec.toNat_ofNat]
  omega

/-- The position `((i + 512 - j) mod 512) · 512 + j`, as the program computes it on words. -/
theorem unshear_word {i j : Nat} (hi : i < 512) (hj : j < 512) :
    IntOp.addi (IntOp.muli (IntOp.remsi .host (IntOp.addi (BitVec.ofNat 32 i) (IntOp.subi 512#32 (BitVec.ofNat 32 j))) 512#32) 512#32)
        (BitVec.ofNat 32 j)
      = BitVec.ofNat 32 ((i + (512 - j)) % 512 * 512 + j) := by
  show IntOp.remsi .host (BitVec.ofNat 32 i + (BitVec.ofNat 32 512 - BitVec.ofNat 32 j)) (BitVec.ofNat 32 512) * BitVec.ofNat 32 512
    + BitVec.ofNat 32 j = _
  rw [word_sub (by omega) (by omega), ← BitVec.ofNat_add, Routing.remsi_word _ (by omega) (by omega) (by omega),
    ← BitVec.ofNat_mul, ← BitVec.ofNat_add]

/-- The position `((i + j) mod 1024) · 512 + j`, as the program computes it on words. -/
theorem shear_word {i j : Nat} (hi : i < 1024) (hj : j < 512) :
    IntOp.addi (IntOp.muli (IntOp.remsi .host (IntOp.addi (BitVec.ofNat 32 i) (BitVec.ofNat 32 j)) 1024#32) 512#32) (BitVec.ofNat 32 j)
      = BitVec.ofNat 32 ((i + j) % 1024 * 512 + j) := by
  show IntOp.remsi .host (BitVec.ofNat 32 i + BitVec.ofNat 32 j) (BitVec.ofNat 32 1024) * BitVec.ofNat 32 512 + BitVec.ofNat 32 j = _
  rw [← BitVec.ofNat_add, Routing.remsi_word _ (by omega) (by omega) (by omega), ← BitVec.ofNat_mul, ← BitVec.ofNat_add]

/-- The row `i / 2 + 512 · (i mod 2)`, as the program computes it on words. -/
theorem weave_word {i : Nat} (hi : i < 1024) :
    IntOp.addi (IntOp.divsi .host (BitVec.ofNat 32 i) 2#32) (IntOp.muli 512#32 (IntOp.remsi .host (BitVec.ofNat 32 i) 2#32))
      = BitVec.ofNat 32 (i / 2 + 512 * (i % 2)) := by
  show IntOp.divsi .host (BitVec.ofNat 32 i) (BitVec.ofNat 32 2)
    + BitVec.ofNat 32 512 * IntOp.remsi .host (BitVec.ofNat 32 i) (BitVec.ofNat 32 2) = _
  rw [Routing.divsi_word _ (by omega) (by omega) (by omega), Routing.remsi_word _ (by omega) (by omega) (by omega),
    ← BitVec.ofNat_mul, ← BitVec.ofNat_add]

end Cert.Gathered

end
-- ==== Proof.RefResample.lean ====
/- What the reference's resampling computes: its result, read at an index, is `synth` of the two images. -/
module

public import proofs.«01_k».proof.Proof.Gen.ReferenceIdeal.Read
public import proofs.«01_k».proof.Proof.RefFilter
public import proofs.«01_k».proof.Proof.RefGather

@[expose] public section

noncomputable section

namespace Cert.ReferenceIdeal.Resample

open Cert.ReferenceIdeal Cert.ReferenceIdeal.Gen Cert.ReferenceIdeal.Read Cert.ReferenceIdeal.Filter Cert.Image Cert.Gathered
open Idealize.ShloMosaic Idealize.ShloMosaic.ValueIdx

variable {F : FTy → Type} [FloatOps F]

/-! ## Images laid out flat -/

section Flat
variable {α : Type}

/-- The place of element `(r, c)` of an image of 512 columns among its `N` elements in row order. -/
def flat {R : Nat} (N : Nat) (hN : N = R * 512) (r : Fin R) (c : Fin 512) : Fin N :=
  ⟨r.val * 512 + c.val, by have := r.isLt; have := c.isLt; omega⟩

/-- An array of images laid out flat, at the place of `(r, c)`, is the image at `(r, c)`. -/
theorem flatten_at {R N : Nat} (hN : N = R * 512) (y : (⟨4, ![4, 3, R, 512]⟩ : Shape).Idx → α)
    (h : Shape.ShapeCasts ⟨4, ![4, 3, R, 512]⟩ ⟨3, ![4, 3, N]⟩) (n : Fin 4) (ch : Fin 3) (r : Fin R) (c : Fin 512) :
    shapeCast ⟨3, ![4, 3, N]⟩ y h (ix3 n ch (flat N hN r c)) = y (ix4 n ch r c) := by
  refine shapeCast_apply y h _ _ ?_
  rw [Shape.rowMajor_val_four, Shape.rowMajor_val_three]
  show ((n.val * 3 + ch.val) * R + r.val) * 512 + c.val = (n.val * 3 + ch.val) * N + (r.val * 512 + c.val)
  rw [hN, Nat.add_mul, Nat.mul_assoc, Nat.add_assoc]

/-- Flat images folded back into rows, at `(r, c)`, are the flat images at its place. -/
theorem unflatten_at {R N : Nat} (hN : N = R * 512) (y : (⟨3, ![4, 3, N]⟩ : Shape).Idx → α)
    (h : Shape.ShapeCasts ⟨3, ![4, 3, N]⟩ ⟨4, ![4, 3, R, 512]⟩) (n : Fin 4) (ch : Fin 3) (r : Fin R) (c : Fin 512) :
    shapeCast ⟨4, ![4, 3, R, 512]⟩ y h (ix4 n ch r c) = y (ix3 n ch (flat N hN r c)) := by
  refine shapeCast_apply y h _ _ ?_
  rw [Shape.rowMajor_val_four, Shape.rowMajor_val_three]
  show (n.val * 3 + ch.val) * N + (r.val * 512 + c.val) = ((n.val * 3 + ch.val) * R + r.val) * 512 + c.val
  rw [hN, ← Nat.mul_assoc, ← Nat.add_assoc, ← Nat.add_mul]

/-- Index words computed per element, laid out flat in one column, at the place of `(r, c)`. -/
theorem column_at {R N : Nat} (hN : N = R * 512) (hN1 : N ≠ 1) (y : (⟨2, ![R, 512]⟩ : Shape).Idx → α)
    (h : Shape.ShapeCasts ⟨2, ![R, 512]⟩ ⟨1, ![N]⟩)
    (hb : (⟨1, ![N]⟩ : Shape).BroadcastsInDim ⟨2, ![N, 1]⟩ ![0]) (r : Fin R) (c : Fin 512) :
    broadcastInDim ⟨2, ![N, 1]⟩ ![0] hb (shapeCast ⟨1, ![N]⟩ y h) (ix2 (flat N hN r c) 0) = y (ix2 r c) := by
  rw [broadcastInDim_apply ![0] hb (shapeCast ⟨1, ![N]⟩ y h) (ix2 (flat N hN r c) 0) (ix1 (flat N hN r c))
    (fun a => match a with
      | ⟨0, _⟩ => by show (flat N hN r c).val = if N = 1 then 0 else (flat N hN r c).val; rw [if_neg hN1])]
  refine shapeCast_apply y h _ _ ?_
  rw [Shape.rowMajor_val_two, Shape.rowMajor_val_one]
  rfl

end Flat

/-! ## Shifting each row around the circle by its own number -/

/-- Images transposed, resampled along the flat images at given words, folded back and transposed: where the words are
    those that move row `j` back by `j`, the result at `(r, c)` is the image at `(r, c - r)`, around the circle. -/
theorem unshear_at (y : (⟨S4x3x512x512, .f32⟩ : BufTy).Contents (Elt F)) (w : IVec S512x512 32)
    (hw : ∀ i j : Fin 512, w (ix2 i j) = BitVec.ofNat 32 ((i.val + (512 - j.val)) % 512 * 512 + j.val))
    (n : Fin 4) (ch : Fin 3) (r c : Fin 512) :
    transpose S4x3x512x512 [0, 1, 3, 2]
        (shapeCast S4x3x512x512
          (Host.gather gather_S4x3x262144_S262144x1_S4x3x262144_01_2_n_n_2_1_431
            (shapeCast S4x3x262144 (transpose S4x3x512x512 [0, 1, 3, 2] y transposes_S4x3x512x512_S4x3x512x512_0_1_3_2)
              shapeCasts_S4x3x512x512_S4x3x262144)
            (broadcastInDim S262144x1 ![0] bcast_S262144_S262144x1_0 (shapeCast S262144 w shapeCasts_S512x512_S262144)))
          shapeCasts_S4x3x262144_S4x3x512x512)
        transposes_S4x3x512x512_S4x3x512x512_0_1_3_2 (ix4 n ch r c)
      = y (ix4 n ch r (wrap (c.val + 512 - r.val))) := by
  have hr := r.isLt
  have hc := c.isLt
  have turn : ∀ (z : (⟨S4x3x512x512, .f32⟩ : BufTy).Contents (Elt F)) (a b : Fin 512),
      transpose S4x3x512x512 [0, 1, 3, 2] z transposes_S4x3x512x512_S4x3x512x512_0_1_3_2 (ix4 n ch a b) = z (ix4 n ch b a) :=
    fun z a b => transpose_apply [0, 1, 3, 2] z transposes_S4x3x512x512_S4x3x512x512_0_1_3_2 (ix4 n ch a b) (ix4 n ch b a)
      (fun d => match d with | ⟨0, _⟩ => rfl | ⟨1, _⟩ => rfl | ⟨2, _⟩ => rfl | ⟨3, _⟩ => rfl)
  rw [turn]
  refine (unflatten_at (R := 512) (N := 262144) rfl _ _ n ch c r).trans ?_
  refine (last_at (N := 262144) (K := 262144) gather_S4x3x262144_S262144x1_S4x3x262144_01_2_n_n_2_1_431_wf _ _ n ch
    (flat 262144 rfl c r) (flat 262144 rfl (wrap (c.val + 512 - r.val)) r) ?_).trans ?_
  · refine (congrArg (fun z : BitVec 32 => z.toInt.toNat)
      ((column_at (R := 512) (N := 262144) rfl (by decide) w _ _ c r).trans (hw c r))).trans ?_
    refine (word_toNat (by omega)).trans ?_
    show _ = (c.val + 512 - r.val) % 512 * 512 + r.val
    rw [Nat.add_sub_assoc (by omega)]
  · exact (flatten_at (R := 512) (N := 262144) rfl _ _ n ch _ r).trans (turn y _ r)

variable (x0 x1 : (⟨S4x3x512x512, .f32⟩ : BufTy).Contents (Elt F))

/-- The first subband with row `r` moved on by `r`. -/
theorem v221_at (n : Fin 4) (ch : Fin 3) (r c : Fin 512) :
    val_main_v221 (F := F) x0 x1 (ix4 n ch r c) = imageOf (val_main_v205 (F := F) x0 x1) n ch r (wrap (c.val + 512 - r.val)) :=
  unshear_at (val_main_v205 (F := F) x0 x1) (val_main_v217 (F := F))
    (fun i j => unshear_word i.isLt j.isLt) n ch r c

/-- The second subband with row `r` moved on by `r`. -/
theorem v237_at (n : Fin 4) (ch : Fin 3) (r c : Fin 512) :
    val_main_v237 (F := F) x0 x1 (ix4 n ch r c) = imageOf (val_main_v102 (F := F) x0 x1) n ch r (wrap (c.val + 512 - r.val)) :=
  unshear_at (val_main_v102 (F := F) x0 x1) (val_main_v233 (F := F))
    (fun i j => unshear_word i.isLt j.isLt) n ch r c

/-- The second subband with row `r` moved on by `r + 1`. -/
theorem v240_at (n : Fin 4) (ch : Fin 3) (r c : Fin 512) :
    val_main_v240 (F := F) x0 x1 (ix4 n ch r c) = imageOf (val_main_v102 (F := F) x0 x1) n ch r (wrap (c.val + 511 - r.val)) := by
  have hr := r.isLt
  have hc := c.isLt
  unfold val_main_v240
  by_cases h0 : c.val = 0
  · rw [concatenate_pair_apply_left (s₁ := S4x3x512x1) (s₂ := S4x3x512x511) 3 _ _ _ (ix4 n ch r c) rfl (ix4 n ch r (0 : Fin 1))
      (fun b => match b with | ⟨0, _⟩ => rfl | ⟨1, _⟩ => rfl | ⟨2, _⟩ => rfl | ⟨3, _⟩ => h0.symm), val_main_v238_apply]
    refine (v237_at x0 x1 n ch r (511 : Fin 512)).trans ?_
    exact congrArg _ (wrap_congr (by show (511 + 512 - r.val) % 512 = _; omega))
  · rw [concatenate_pair_apply_right (s₁ := S4x3x512x1) (s₂ := S4x3x512x511) 3 _ _ _ (ix4 n ch r c) rfl rfl (ix4 n ch r (⟨c.val - 1, by omega⟩ : Fin 511))
      (fun b hb => match b with | ⟨0, _⟩ => rfl | ⟨1, _⟩ => rfl | ⟨2, _⟩ => rfl | ⟨3, _⟩ => absurd rfl hb)
      (by show c.val - 1 + 1 = c.val; omega), val_main_v239_apply]
    refine (v237_at x0 x1 n ch r (⟨c.val - 1, by omega⟩ : Fin 512)).trans ?_
    exact congrArg _ (wrap_congr (by show (c.val - 1 + 512 - r.val) % 512 = _; omega))

/-! ## Weaving the rows and shifting the columns -/

/-- The first 512 of the stacked rows are the first subband's. -/
theorem v241_top (n : Fin 4) (ch : Fin 3) (i : Fin 1024) (r c : Fin 512) (h : i.val = r.val) :
    val_main_v241 (F := F) x0 x1 (ix4 n ch i c) = imageOf (val_main_v205 (F := F) x0 x1) n ch r (wrap (c.val + 512 - r.val)) := by
  unfold val_main_v241
  rw [concatenate_pair_apply_left (s₁ := S4x3x512x512) (s₂ := S4x3x512x512) 2 _ _ _ (ix4 n ch i c) rfl (ix4 n ch r c)
    (fun b => match b with | ⟨0, _⟩ => rfl | ⟨1, _⟩ => rfl | ⟨2, _⟩ => h.symm | ⟨3, _⟩ => rfl)]
  exact v221_at x0 x1 n ch r c

/-- The others are the second subband's. -/
theorem v241_bottom (n : Fin 4) (ch : Fin 3) (i : Fin 1024) (r c : Fin 512) (h : i.val = r.val + 512) :
    val_main_v241 (F := F) x0 x1 (ix4 n ch i c) = imageOf (val_main_v102 (F := F) x0 x1) n ch r (wrap (c.val + 511 - r.val)) := by
  unfold val_main_v241
  rw [concatenate_pair_apply_right (s₁ := S4x3x512x512) (s₂ := S4x3x512x512) 2 _ _ _ (ix4 n ch i c) rfl rfl (ix4 n ch r c)
    (fun b hb => match b with | ⟨0, _⟩ => rfl | ⟨1, _⟩ => rfl | ⟨2, _⟩ => absurd rfl hb | ⟨3, _⟩ => rfl) h.symm]
  exact v240_at x0 x1 n ch r c

/-- Row `i` of the woven array is stacked row `i / 2 + 512 · (i mod 2)`. -/
theorem v250_at (n : Fin 4) (ch : Fin 3) (i k : Fin 1024) (c : Fin 512) (h : i.val / 2 + 512 * (i.val % 2) = k.val) :
    val_main_v250 (F := F) x0 x1 (ix4 n ch i c) = val_main_v241 (F := F) x0 x1 (ix4 n ch k c) := by
  have hi := i.isLt
  refine row_at (N := 1024) (K := 1024) (C := 512) gather_S4x3x1024x512_S1024x1_S4x3x1024x512_013_2_n_n_2_1_431512_wf
    (val_main_v241 (F := F) x0 x1) (val_main_call2_v0 (F := F)) n ch i c k ?_
  rw [val_main_call2_v0_apply]
  refine (congrArg (fun z : BitVec 32 => z.toInt.toNat) (weave_word hi)).trans ?_
  exact (word_toNat (by omega)).trans h

/-- Element `(r, c)` of the result is element `(r + c, c)` of the woven array, around the circle. -/
theorem v262_at (n : Fin 4) (ch : Fin 3) (r k : Fin 1024) (c : Fin 512) (h : (r.val + c.val) % 1024 = k.val) :
    val_main_v262 (F := F) x0 x1 (ix4 n ch r c) = val_main_v250 (F := F) x0 x1 (ix4 n ch k c) := by
  have hc := c.isLt
  unfold val_main_v262
  refine (unflatten_at (R := 1024) (N := 524288) rfl (val_main_v261 (F := F) x0 x1) _ n ch r c).trans ?_
  refine (last_at (N := 524288) (K := 524288) gather_S4x3x524288_S524288x1_S4x3x524288_01_2_n_n_2_1_431_wf
    (val_main_v251 (F := F) x0 x1) (val_main_call3_v0 (F := F)) n ch (flat 524288 rfl r c) (flat 524288 rfl k c) ?_).trans ?_
  · refine (congrArg (fun z : BitVec 32 => z.toInt.toNat)
      ((column_at (R := 1024) (N := 524288) rfl (by decide) (val_main_v259 (F := F)) _ _ r c).trans
        (shear_word r.isLt hc))).trans ?_
    refine (word_toNat (a := (r.val + c.val) % 1024 * 512 + c.val) (by omega)).trans ?_
    show (r.val + c.val) % 1024 * 512 + c.val = k.val * 512 + c.val
    rw [h]
  · exact flatten_at (R := 1024) (N := 524288) rfl (val_main_v250 (F := F) x0 x1) _ n ch k c

/-- The reference's result is, image by image, `synth` of the two images. -/
theorem result_at (n : Fin 4) (ch : Fin 3) (r : Fin 1024) (c : Fin 512) :
    val_main_v262 (F := F) x0 x1 (ix4 n ch r c) = synth (imageOf x0 n ch) (imageOf x1 n ch) r c := by
  have hr := r.isLt
  have hc := c.isLt
  have hm := Nat.mod_lt (r.val + c.val) (show 0 < 1024 by decide)
  have hv : ∀ a : Nat, a < 512 → (wrap a).val = a := fun a ha => Nat.mod_eq_of_lt ha
  unfold synth
  rw [← v102_image, ← v205_image, v262_at x0 x1 n ch r ⟨(r.val + c.val) % 1024, hm⟩ c rfl]
  by_cases h2 : (r.val + c.val) % 1024 % 2 = 0
  · refine Eq.trans ?_ (if_pos h2).symm
    have hw := hv ((r.val + c.val) % 1024 / 2) (by omega)
    rw [v250_at x0 x1 n ch _ ⟨(r.val + c.val) % 1024 / 2, by omega⟩ c (by show _ / 2 + 512 * (_ % 2) = _; rw [h2]; rfl),
      v241_top x0 x1 n ch _ (wrap ((r.val + c.val) % 1024 / 2)) c hw.symm, hw]
  · refine Eq.trans ?_ (if_neg h2).symm
    have hw := hv ((r.val + c.val) % 1024 / 2) (by omega)
    rw [v250_at x0 x1 n ch _ ⟨(r.val + c.val) % 1024 / 2 + 512, by omega⟩ c
        (by have h1 : (r.val + c.val) % 1024 % 2 = 1 := by omega
            show _ / 2 + 512 * (_ % 2) = _; rw [h1]),
      v241_bottom x0 x1 n ch _ (wrap ((r.val + c.val) % 1024 / 2)) c (congrArg (· + 512) hw.symm), hw]

end Cert.ReferenceIdeal.Resample

end
-- ==== Proof.Equation.lean ====
/- The two runs, with their results at one and the same function of the arguments. -/
module

public import proofs.«01_k».proof.Proof.KernelValue
public import proofs.«01_k».proof.Proof.RefResample

@[expose] public section

noncomputable section

namespace Cert.Equation

open Cert.Image
open Idealize.ShloMosaic hiding ix2 ix3 ix4 eq_ix4
open Idealize.ShloMosaic.TcCoe Idealize.ShloMosaic.ValueIdx
open Idealize.SL Idealize.SL.Sem

variable {F : FTy → Type} [FloatOps F]

/-- A batch of three-channel images of 512 rows of 512 elements. -/
abbrev Batch (F : FTy → Type) := (⟨⟨4, ![4, 3, 512, 512]⟩, .f32⟩ : BufTy).Contents (Elt F)

/-- The batch of images both programs compute: `synth` of the two batches, image by image. -/
def synthBatch (x0 x1 : Batch F) : (⟨⟨4, ![4, 3, 1024, 512]⟩, .f32⟩ : BufTy).Contents (Elt F) :=
  fun i => synth (fun r c => x0 (ix4 (i 0) (i 1) r c)) (fun r c => x1 (ix4 (i 0) (i 1) r c)) (i 2) (i 3)

/-- Every run of the kernel ends with its result at `synthBatch` of the arguments and the arguments unchanged. -/
theorem kernel_run (m : (l : Loc Cert.KernelIdeal.nD Cert.KernelIdeal.τ Cert.KernelIdeal.sig) → Buf (Elt F) l)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ fun r => ∀ c : Dev Cert.KernelIdeal.nD,
        r.2.mem ((c : Thread Cert.KernelIdeal.nD Cert.KernelIdeal.τ).loc Cert.KernelIdeal.main_v0)
          = synthBatch (m ((c : Thread Cert.KernelIdeal.nD Cert.KernelIdeal.τ).loc Cert.KernelIdeal.main_arg0))
              (m ((c : Thread Cert.KernelIdeal.nD Cert.KernelIdeal.τ).loc Cert.KernelIdeal.main_arg1))
        ∧ r.2.mem ((c : Thread Cert.KernelIdeal.nD Cert.KernelIdeal.τ).loc Cert.KernelIdeal.main_arg0)
          = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1)
          = m ((c : Thread Cert.KernelIdeal.nD Cert.KernelIdeal.τ).loc Cert.KernelIdeal.main_arg1) := by
  refine (θ_run _ _ _).mono (fun r h c => ⟨?_, ?_, ?_⟩) (Cert.KernelIdeal.Gen.run_main m ρ)
  · refine ((h c).2 Cert.KernelIdeal.main_v0 (Pipeline.mem_restRefs_of Cert.KernelIdeal.main_v0 (by decide) (by decide))).trans ?_
    refine funext fun (i : (⟨4, ![4, 3, 1024, 512]⟩ : Shape).Idx) => ?_
    refine (congrArg _ (eq_ix4 i)).trans ?_
    exact Cert.KernelIdeal.Value.result_at m c (i 0) (i 1) (i 2) (i 3)
  · exact ((h c).2 Cert.KernelIdeal.main_arg0 (Pipeline.mem_restRefs_of Cert.KernelIdeal.main_arg0 (by decide) (by decide))).trans
      (Cert.KernelIdeal.Gen.W_main_arg0 m _ c)
  · exact ((h c).2 Cert.KernelIdeal.main_arg1 (Pipeline.mem_restRefs_of Cert.KernelIdeal.main_arg1 (by decide) (by decide))).trans
      (Cert.KernelIdeal.Gen.W_main_arg1 m _ c)

/-- The reference's last stage is `synthBatch` of the arguments. -/
theorem reference_value (x0 x1 : Batch F) : Cert.ReferenceIdeal.Read.val_main_v262 (F := F) x0 x1 = synthBatch x0 x1 := by
  refine funext fun (i : (⟨4, ![4, 3, 1024, 512]⟩ : Shape).Idx) => ?_
  refine (congrArg _ (eq_ix4 i)).trans ?_
  exact Cert.ReferenceIdeal.Resample.result_at x0 x1 (i 0) (i 1) (i 2) (i 3)

/-- Every run of the reference ends with its result at `synthBatch` of the arguments and the arguments unchanged. -/
theorem reference_run (m : (l : Loc Cert.ReferenceIdeal.nD Cert.ReferenceIdeal.τ Cert.ReferenceIdeal.sig) → Buf (Elt F) l)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ fun r => ∀ c : Dev Cert.ReferenceIdeal.nD,
        r.2.mem ((c : Thread Cert.ReferenceIdeal.nD Cert.ReferenceIdeal.τ).loc Cert.ReferenceIdeal.main_v262)
          = synthBatch (m ((c : Thread Cert.ReferenceIdeal.nD Cert.ReferenceIdeal.τ).loc Cert.ReferenceIdeal.main_arg0))
              (m ((c : Thread Cert.ReferenceIdeal.nD Cert.ReferenceIdeal.τ).loc Cert.ReferenceIdeal.main_arg1))
        ∧ r.2.mem ((c : Thread Cert.ReferenceIdeal.nD Cert.ReferenceIdeal.τ).loc Cert.ReferenceIdeal.main_arg0)
          = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1)
          = m ((c : Thread Cert.ReferenceIdeal.nD Cert.ReferenceIdeal.τ).loc Cert.ReferenceIdeal.main_arg1) :=
  (θ_run _ _ _).mono
    (fun _ h c => ⟨((h c).1.trans (Cert.ReferenceIdeal.Read.val_main_v262_eq (StableHlo.launchContents m c))).trans
      (reference_value _ _), (h c).2⟩)
    (Cert.ReferenceIdeal.Value.run m ρ)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel runs, ends, and leaves its arguments and every semaphore counter as they were. -/
theorem frame_kernel : Cert.quiescent_Kernel := fun m ρ _ => Cert.Kernel.Gen.frame m ρ

/-- So does its idealization. -/
theorem frame_kernel_ideal : Cert.quiescent_KernelIdeal := fun m ρ _ => Cert.KernelIdeal.Gen.frame m ρ

/-- So does the reference, which has no semaphore at all. -/
theorem frame_reference : Cert.quiescent_ReferenceIdeal := fun m ρ _ =>
  (θ_run _ _ _).mono (fun r h => ⟨fun c => (h c).2, sem_eq_zero_of_no_sems (by decide) r.2⟩)
    (Cert.Equation.reference_run m ρ)

/-- From equal arguments the kernel's idealization and the reference end with equal results, every element of them. -/
theorem equal_results : Cert.algebraic_KernelIdeal_ReferenceIdeal := fun m ρ m' ρ' _ hm =>
  ⟨fun c => Cert.Equation.synthBatch
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Equation.kernel_run m ρ,
    (θ_run _ _ _).mono
      (fun _ h c => ⟨(h c).1.trans (congrArg₂ Cert.Equation.synthBatch (hm c).1 (hm c).2), (h c).2⟩)
      (Cert.Equation.reference_run m' ρ')⟩

/-- Every claim of `Defs.lean`. -/
theorem claim : Cert.Claim :=
  ⟨Cert.Kernel.Gen.facts, Cert.KernelIdeal.Gen.facts, Cert.ReferenceIdeal.Gen.facts,
    frame_kernel, frame_kernel_ideal, frame_reference, trivial, equal_results⟩

end Cert.Proof

end
